-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S128x4096 : Shape := ⟨2, ![128, 4096]⟩
abbrev S32x8x128 : Shape := ⟨3, ![32, 8, 128]⟩
abbrev S10x512x2048 : Shape := ⟨3, ![10, 512, 2048]⟩
abbrev S10x4 : Shape := ⟨2, ![10, 4]⟩
abbrev S32 : Shape := ⟨1, ![32]⟩
abbrev S128x128 : Shape := ⟨2, ![128, 128]⟩
abbrev S1x1 : Shape := ⟨2, ![1, 1]⟩
abbrev S_ : Shape := ⟨0, ![]⟩
abbrev S1x128x2048 : Shape := ⟨3, ![1, 128, 2048]⟩
abbrev S128x2048 : Shape := ⟨2, ![128, 2048]⟩
abbrev S1 : Shape := ⟨1, ![1]⟩
abbrev S128x512 : Shape := ⟨2, ![128, 512]⟩
abbrev S1x512x2048 : Shape := ⟨3, ![1, 512, 2048]⟩
abbrev S512x2048 : Shape := ⟨2, ![512, 2048]⟩
abbrev S1x1x1 : Shape := ⟨3, ![1, 1, 1]⟩
abbrev S1x8x128 : Shape := ⟨3, ![1, 8, 128]⟩
abbrev S8x128 : Shape := ⟨2, ![8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S128x4096, .f32⟩
  | .local _ .vmem, ⟨3, _⟩ => ⟨S32x8x128, .f32⟩
  | .local _ .vmem, ⟨4, _⟩ => ⟨S10x512x2048, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 170 → Bool
  | ⟨i, _⟩ => dmaSemScopedAt i

abbrev sig : RefSig :=
  (ofTc nBuf bufTy 1 170 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v3 : BitVec 32 := Scalar.muli v2 c128_i32
  let v4 : Index := Scalar.indexCast v3
  let c0 : Index := 0#32
  ![v4.toNat, 0]
def k0_off2 (d0 : Dev nD) (c0_i32 : BitVec 32) (c0_i32_2 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v10 : BitVec 32 := Scalar.addi v2 c0_i32
  let v11 : BitVec 32 := Scalar.addi v10 c0_i32_2
  let c32_i32_3 : BitVec 32 := 32#32
  let v12 : BitVec 32 := Scalar.remsi v11 c32_i32_3
  let c128_i32_4 : BitVec 32 := 128#32
  let v13 : BitVec 32 := Scalar.muli v12 c128_i32_4
  let c0_i32_20 : BitVec 32 := 0#32
  ![v13.toNat, 0]
def k0_off3 (d0 : Dev nD) (c0_i32_37 : BitVec 32) (c0_i32_38 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v46 : BitVec 32 := Scalar.addi v2 c0_i32_37
  let v47 : BitVec 32 := Scalar.addi v46 c0_i32_38
  let c32_i32_39 : BitVec 32 := 32#32
  let v48 : BitVec 32 := Scalar.remsi v47 c32_i32_39
  let c128_i32_40 : BitVec 32 := 128#32
  let v49 : BitVec 32 := Scalar.muli v48 c128_i32_40
  let c2048_i32 : BitVec 32 := 2048#32
  ![v49.toNat, 2048]
def k0_off4 (d0 : Dev nD) (c0_i32_76 : BitVec 32) (c0_i32_77 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v82 : BitVec 32 := Scalar.addi v2 c0_i32_76
  let v83 : BitVec 32 := Scalar.addi v82 c0_i32_77
  let c32_i32_78 : BitVec 32 := 32#32
  let v84 : BitVec 32 := Scalar.remsi v83 c32_i32_78
  let c128_i32_79 : BitVec 32 := 128#32
  let v85 : BitVec 32 := Scalar.muli v84 c128_i32_79
  let c4096_i32 : BitVec 32 := 4096#32
  ![v85.toNat, 4096]
def k0_off5 (d0 : Dev nD) (c0_i32_115 : BitVec 32) (c0_i32_116 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v118 : BitVec 32 := Scalar.addi v2 c0_i32_115
  let v119 : BitVec 32 := Scalar.addi v118 c0_i32_116
  let c32_i32_117 : BitVec 32 := 32#32
  let v120 : BitVec 32 := Scalar.remsi v119 c32_i32_117
  let c128_i32_118 : BitVec 32 := 128#32
  let v121 : BitVec 32 := Scalar.muli v120 c128_i32_118
  let c6144_i32 : BitVec 32 := 6144#32
  ![v121.toNat, 6144]
def k0_dev1 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_388 : BitVec 32 := 1#32
  let v371 : BitVec 32 := Scalar.addi v2 c1_i32_388
  let c32_i32_389 : BitVec 32 := 32#32
  let v372 : BitVec 32 := Scalar.remsi v371 c32_i32_389
  let c1_i32_391 : BitVec 32 := 1#32
  let v373 : BitVec 32 := Scalar.muli v372 c1_i32_391
  let v374 : BitVec 32 := Scalar.addi c0_i32_392 v373
  v374.toNat
def k0_dev2 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_393 : BitVec 32 := 2#32
  let v375 : BitVec 32 := Scalar.addi v2 c2_i32_393
  let c32_i32_394 : BitVec 32 := 32#32
  let v376 : BitVec 32 := Scalar.remsi v375 c32_i32_394
  let c1_i32_396 : BitVec 32 := 1#32
  let v377 : BitVec 32 := Scalar.muli v376 c1_i32_396
  let v378 : BitVec 32 := Scalar.addi c0_i32_397 v377
  v378.toNat
def k0_dev3 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_398 : BitVec 32 := 3#32
  let v379 : BitVec 32 := Scalar.addi v2 c3_i32_398
  let c32_i32_399 : BitVec 32 := 32#32
  let v380 : BitVec 32 := Scalar.remsi v379 c32_i32_399
  let c1_i32_401 : BitVec 32 := 1#32
  let v381 : BitVec 32 := Scalar.muli v380 c1_i32_401
  let v382 : BitVec 32 := Scalar.addi c0_i32_402 v381
  v382.toNat
def k0_dev4 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_403 : BitVec 32 := 4#32
  let v383 : BitVec 32 := Scalar.addi v2 c4_i32_403
  let c32_i32_404 : BitVec 32 := 32#32
  let v384 : BitVec 32 := Scalar.remsi v383 c32_i32_404
  let c1_i32_406 : BitVec 32 := 1#32
  let v385 : BitVec 32 := Scalar.muli v384 c1_i32_406
  let v386 : BitVec 32 := Scalar.addi c0_i32_407 v385
  v386.toNat
def k0_dev5 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_408 : BitVec 32 := 5#32
  let v387 : BitVec 32 := Scalar.addi v2 c5_i32_408
  let c32_i32_409 : BitVec 32 := 32#32
  let v388 : BitVec 32 := Scalar.remsi v387 c32_i32_409
  let c1_i32_411 : BitVec 32 := 1#32
  let v389 : BitVec 32 := Scalar.muli v388 c1_i32_411
  let v390 : BitVec 32 := Scalar.addi c0_i32_412 v389
  v390.toNat
def k0_dev6 (d0 : Dev nD) : Nat :=
  let c0_i32_417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_413 : BitVec 32 := 6#32
  let v391 : BitVec 32 := Scalar.addi v2 c6_i32_413
  let c32_i32_414 : BitVec 32 := 32#32
  let v392 : BitVec 32 := Scalar.remsi v391 c32_i32_414
  let c1_i32_416 : BitVec 32 := 1#32
  let v393 : BitVec 32 := Scalar.muli v392 c1_i32_416
  let v394 : BitVec 32 := Scalar.addi c0_i32_417 v393
  v394.toNat
def k0_dev7 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_418 : BitVec 32 := 7#32
  let v395 : BitVec 32 := Scalar.addi v2 c7_i32_418
  let c32_i32_419 : BitVec 32 := 32#32
  let v396 : BitVec 32 := Scalar.remsi v395 c32_i32_419
  let c1_i32_421 : BitVec 32 := 1#32
  let v397 : BitVec 32 := Scalar.muli v396 c1_i32_421
  let v398 : BitVec 32 := Scalar.addi c0_i32_422 v397
  v398.toNat
def k0_dev8 (d0 : Dev nD) : Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_423 : BitVec 32 := 8#32
  let v399 : BitVec 32 := Scalar.addi v2 c8_i32_423
  let c32_i32_424 : BitVec 32 := 32#32
  let v400 : BitVec 32 := Scalar.remsi v399 c32_i32_424
  let c1_i32_426 : BitVec 32 := 1#32
  let v401 : BitVec 32 := Scalar.muli v400 c1_i32_426
  let v402 : BitVec 32 := Scalar.addi c0_i32_427 v401
  v402.toNat
def k0_dev9 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_428 : BitVec 32 := 9#32
  let v403 : BitVec 32 := Scalar.addi v2 c9_i32_428
  let c32_i32_429 : BitVec 32 := 32#32
  let v404 : BitVec 32 := Scalar.remsi v403 c32_i32_429
  let c1_i32_431 : BitVec 32 := 1#32
  let v405 : BitVec 32 := Scalar.muli v404 c1_i32_431
  let v406 : BitVec 32 := Scalar.addi c0_i32_432 v405
  v406.toNat
def k0_dev10 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v407 : BitVec 32 := Scalar.addi v2 c10_i32
  let c32_i32_433 : BitVec 32 := 32#32
  let v408 : BitVec 32 := Scalar.remsi v407 c32_i32_433
  let c1_i32_435 : BitVec 32 := 1#32
  let v409 : BitVec 32 := Scalar.muli v408 c1_i32_435
  let v410 : BitVec 32 := Scalar.addi c0_i32_436 v409
  v410.toNat
def k0_dev11 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v411 : BitVec 32 := Scalar.addi v2 c11_i32
  let c32_i32_437 : BitVec 32 := 32#32
  let v412 : BitVec 32 := Scalar.remsi v411 c32_i32_437
  let c1_i32_439 : BitVec 32 := 1#32
  let v413 : BitVec 32 := Scalar.muli v412 c1_i32_439
  let v414 : BitVec 32 := Scalar.addi c0_i32_440 v413
  v414.toNat
def k0_dev12 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v415 : BitVec 32 := Scalar.addi v2 c12_i32
  let c32_i32_441 : BitVec 32 := 32#32
  let v416 : BitVec 32 := Scalar.remsi v415 c32_i32_441
  let c1_i32_443 : BitVec 32 := 1#32
  let v417 : BitVec 32 := Scalar.muli v416 c1_i32_443
  let v418 : BitVec 32 := Scalar.addi c0_i32_444 v417
  v418.toNat
def k0_dev13 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v419 : BitVec 32 := Scalar.addi v2 c13_i32
  let c32_i32_445 : BitVec 32 := 32#32
  let v420 : BitVec 32 := Scalar.remsi v419 c32_i32_445
  let c1_i32_447 : BitVec 32 := 1#32
  let v421 : BitVec 32 := Scalar.muli v420 c1_i32_447
  let v422 : BitVec 32 := Scalar.addi c0_i32_448 v421
  v422.toNat
def k0_dev14 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v423 : BitVec 32 := Scalar.addi v2 c14_i32
  let c32_i32_449 : BitVec 32 := 32#32
  let v424 : BitVec 32 := Scalar.remsi v423 c32_i32_449
  let c1_i32_451 : BitVec 32 := 1#32
  let v425 : BitVec 32 := Scalar.muli v424 c1_i32_451
  let v426 : BitVec 32 := Scalar.addi c0_i32_452 v425
  v426.toNat
def k0_dev15 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v427 : BitVec 32 := Scalar.addi v2 c15_i32
  let c32_i32_453 : BitVec 32 := 32#32
  let v428 : BitVec 32 := Scalar.remsi v427 c32_i32_453
  let c1_i32_455 : BitVec 32 := 1#32
  let v429 : BitVec 32 := Scalar.muli v428 c1_i32_455
  let v430 : BitVec 32 := Scalar.addi c0_i32_456 v429
  v430.toNat
def k0_dev16 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v431 : BitVec 32 := Scalar.addi v2 c16_i32
  let c32_i32_457 : BitVec 32 := 32#32
  let v432 : BitVec 32 := Scalar.remsi v431 c32_i32_457
  let c1_i32_459 : BitVec 32 := 1#32
  let v433 : BitVec 32 := Scalar.muli v432 c1_i32_459
  let v434 : BitVec 32 := Scalar.addi c0_i32_460 v433
  v434.toNat
def k0_dev17 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v435 : BitVec 32 := Scalar.addi v2 c17_i32
  let c32_i32_461 : BitVec 32 := 32#32
  let v436 : BitVec 32 := Scalar.remsi v435 c32_i32_461
  let c1_i32_463 : BitVec 32 := 1#32
  let v437 : BitVec 32 := Scalar.muli v436 c1_i32_463
  let v438 : BitVec 32 := Scalar.addi c0_i32_464 v437
  v438.toNat
def k0_dev18 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v439 : BitVec 32 := Scalar.addi v2 c18_i32
  let c32_i32_465 : BitVec 32 := 32#32
  let v440 : BitVec 32 := Scalar.remsi v439 c32_i32_465
  let c1_i32_467 : BitVec 32 := 1#32
  let v441 : BitVec 32 := Scalar.muli v440 c1_i32_467
  let v442 : BitVec 32 := Scalar.addi c0_i32_468 v441
  v442.toNat
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v443 : BitVec 32 := Scalar.addi v2 c19_i32
  let c32_i32_469 : BitVec 32 := 32#32
  let v444 : BitVec 32 := Scalar.remsi v443 c32_i32_469
  let c1_i32_471 : BitVec 32 := 1#32
  let v445 : BitVec 32 := Scalar.muli v444 c1_i32_471
  let v446 : BitVec 32 := Scalar.addi c0_i32_472 v445
  v446.toNat
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v447 : BitVec 32 := Scalar.addi v2 c20_i32
  let c32_i32_473 : BitVec 32 := 32#32
  let v448 : BitVec 32 := Scalar.remsi v447 c32_i32_473
  let c1_i32_475 : BitVec 32 := 1#32
  let v449 : BitVec 32 := Scalar.muli v448 c1_i32_475
  let v450 : BitVec 32 := Scalar.addi c0_i32_476 v449
  v450.toNat
def k0_dev21 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v451 : BitVec 32 := Scalar.addi v2 c21_i32
  let c32_i32_477 : BitVec 32 := 32#32
  let v452 : BitVec 32 := Scalar.remsi v451 c32_i32_477
  let c1_i32_479 : BitVec 32 := 1#32
  let v453 : BitVec 32 := Scalar.muli v452 c1_i32_479
  let v454 : BitVec 32 := Scalar.addi c0_i32_480 v453
  v454.toNat
def k0_dev22 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v455 : BitVec 32 := Scalar.addi v2 c22_i32
  let c32_i32_481 : BitVec 32 := 32#32
  let v456 : BitVec 32 := Scalar.remsi v455 c32_i32_481
  let c1_i32_483 : BitVec 32 := 1#32
  let v457 : BitVec 32 := Scalar.muli v456 c1_i32_483
  let v458 : BitVec 32 := Scalar.addi c0_i32_484 v457
  v458.toNat
def k0_dev23 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v459 : BitVec 32 := Scalar.addi v2 c23_i32
  let c32_i32_485 : BitVec 32 := 32#32
  let v460 : BitVec 32 := Scalar.remsi v459 c32_i32_485
  let c1_i32_487 : BitVec 32 := 1#32
  let v461 : BitVec 32 := Scalar.muli v460 c1_i32_487
  let v462 : BitVec 32 := Scalar.addi c0_i32_488 v461
  v462.toNat
def k0_dev24 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v463 : BitVec 32 := Scalar.addi v2 c24_i32
  let c32_i32_489 : BitVec 32 := 32#32
  let v464 : BitVec 32 := Scalar.remsi v463 c32_i32_489
  let c1_i32_491 : BitVec 32 := 1#32
  let v465 : BitVec 32 := Scalar.muli v464 c1_i32_491
  let v466 : BitVec 32 := Scalar.addi c0_i32_492 v465
  v466.toNat
def k0_dev25 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v467 : BitVec 32 := Scalar.addi v2 c25_i32
  let c32_i32_493 : BitVec 32 := 32#32
  let v468 : BitVec 32 := Scalar.remsi v467 c32_i32_493
  let c1_i32_495 : BitVec 32 := 1#32
  let v469 : BitVec 32 := Scalar.muli v468 c1_i32_495
  let v470 : BitVec 32 := Scalar.addi c0_i32_496 v469
  v470.toNat
def k0_dev26 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v471 : BitVec 32 := Scalar.addi v2 c26_i32
  let c32_i32_497 : BitVec 32 := 32#32
  let v472 : BitVec 32 := Scalar.remsi v471 c32_i32_497
  let c1_i32_499 : BitVec 32 := 1#32
  let v473 : BitVec 32 := Scalar.muli v472 c1_i32_499
  let v474 : BitVec 32 := Scalar.addi c0_i32_500 v473
  v474.toNat
def k0_dev27 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v475 : BitVec 32 := Scalar.addi v2 c27_i32
  let c32_i32_501 : BitVec 32 := 32#32
  let v476 : BitVec 32 := Scalar.remsi v475 c32_i32_501
  let c1_i32_503 : BitVec 32 := 1#32
  let v477 : BitVec 32 := Scalar.muli v476 c1_i32_503
  let v478 : BitVec 32 := Scalar.addi c0_i32_504 v477
  v478.toNat
def k0_dev28 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v479 : BitVec 32 := Scalar.addi v2 c28_i32
  let c32_i32_505 : BitVec 32 := 32#32
  let v480 : BitVec 32 := Scalar.remsi v479 c32_i32_505
  let c1_i32_507 : BitVec 32 := 1#32
  let v481 : BitVec 32 := Scalar.muli v480 c1_i32_507
  let v482 : BitVec 32 := Scalar.addi c0_i32_508 v481
  v482.toNat
def k0_dev29 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v483 : BitVec 32 := Scalar.addi v2 c29_i32
  let c32_i32_509 : BitVec 32 := 32#32
  let v484 : BitVec 32 := Scalar.remsi v483 c32_i32_509
  let c1_i32_511 : BitVec 32 := 1#32
  let v485 : BitVec 32 := Scalar.muli v484 c1_i32_511
  let v486 : BitVec 32 := Scalar.addi c0_i32_512 v485
  v486.toNat
def k0_dev30 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v487 : BitVec 32 := Scalar.addi v2 c30_i32
  let c32_i32_513 : BitVec 32 := 32#32
  let v488 : BitVec 32 := Scalar.remsi v487 c32_i32_513
  let c1_i32_515 : BitVec 32 := 1#32
  let v489 : BitVec 32 := Scalar.muli v488 c1_i32_515
  let v490 : BitVec 32 := Scalar.addi c0_i32_516 v489
  v490.toNat
def k0_dev31 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v491 : BitVec 32 := Scalar.addi v2 c31_i32
  let c32_i32_517 : BitVec 32 := 32#32
  let v492 : BitVec 32 := Scalar.remsi v491 c32_i32_517
  let c1_i32_519 : BitVec 32 := 1#32
  let v493 : BitVec 32 := Scalar.muli v492 c1_i32_519
  let v494 : BitVec 32 := Scalar.addi c0_i32_520 v493
  v494.toNat
def k0_off6 (d0 : Dev nD) (c1_i32_523 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_522 : BitVec 32 := 32#32
  let v495 : BitVec 32 := Scalar.addi v2 c32_i32_522
  let v496 : BitVec 32 := Scalar.subi v495 c1_i32_523
  let c32_i32_524 : BitVec 32 := 32#32
  let v497 : BitVec 32 := Scalar.remsi v496 c32_i32_524
  let c128_i32_525 : BitVec 32 := 128#32
  let v498 : BitVec 32 := Scalar.muli v497 c128_i32_525
  let c0_i32_532 : BitVec 32 := 0#32
  ![v498.toNat, 0]
def k0_dev32 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_522 : BitVec 32 := 32#32
  let v495 : BitVec 32 := Scalar.addi v2 c32_i32_522
  let c1_i32_523 : BitVec 32 := 1#32
  let v496 : BitVec 32 := Scalar.subi v495 c1_i32_523
  let c32_i32_524 : BitVec 32 := 32#32
  let v497 : BitVec 32 := Scalar.remsi v496 c32_i32_524
  let c1_i32_528 : BitVec 32 := 1#32
  let v499 : BitVec 32 := Scalar.muli v497 c1_i32_528
  let v500 : BitVec 32 := Scalar.addi c0_i32_529 v499
  v500.toNat
def k0_dev33 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_533 : BitVec 32 := 32#32
  let v507 : BitVec 32 := Scalar.addi v2 c32_i32_533
  let c2_i32_534 : BitVec 32 := 2#32
  let v508 : BitVec 32 := Scalar.subi v507 c2_i32_534
  let c32_i32_535 : BitVec 32 := 32#32
  let v509 : BitVec 32 := Scalar.remsi v508 c32_i32_535
  let c1_i32_539 : BitVec 32 := 1#32
  let v511 : BitVec 32 := Scalar.muli v509 c1_i32_539
  let v512 : BitVec 32 := Scalar.addi c0_i32_540 v511
  v512.toNat
def k0_dev34 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_544 : BitVec 32 := 32#32
  let v519 : BitVec 32 := Scalar.addi v2 c32_i32_544
  let c3_i32_545 : BitVec 32 := 3#32
  let v520 : BitVec 32 := Scalar.subi v519 c3_i32_545
  let c32_i32_546 : BitVec 32 := 32#32
  let v521 : BitVec 32 := Scalar.remsi v520 c32_i32_546
  let c1_i32_550 : BitVec 32 := 1#32
  let v523 : BitVec 32 := Scalar.muli v521 c1_i32_550
  let v524 : BitVec 32 := Scalar.addi c0_i32_551 v523
  v524.toNat
def k0_dev35 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_555 : BitVec 32 := 32#32
  let v531 : BitVec 32 := Scalar.addi v2 c32_i32_555
  let c4_i32_556 : BitVec 32 := 4#32
  let v532 : BitVec 32 := Scalar.subi v531 c4_i32_556
  let c32_i32_557 : BitVec 32 := 32#32
  let v533 : BitVec 32 := Scalar.remsi v532 c32_i32_557
  let c1_i32_561 : BitVec 32 := 1#32
  let v535 : BitVec 32 := Scalar.muli v533 c1_i32_561
  let v536 : BitVec 32 := Scalar.addi c0_i32_562 v535
  v536.toNat
def k0_dev36 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_565 : BitVec 32 := 32#32
  let v543 : BitVec 32 := Scalar.addi v2 c32_i32_565
  let c5_i32_566 : BitVec 32 := 5#32
  let v544 : BitVec 32 := Scalar.subi v543 c5_i32_566
  let c32_i32_567 : BitVec 32 := 32#32
  let v545 : BitVec 32 := Scalar.remsi v544 c32_i32_567
  let c1_i32_571 : BitVec 32 := 1#32
  let v547 : BitVec 32 := Scalar.muli v545 c1_i32_571
  let v548 : BitVec 32 := Scalar.addi c0_i32_572 v547
  v548.toNat
def k0_dev37 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_575 : BitVec 32 := 32#32
  let v555 : BitVec 32 := Scalar.addi v2 c32_i32_575
  let c6_i32_576 : BitVec 32 := 6#32
  let v556 : BitVec 32 := Scalar.subi v555 c6_i32_576
  let c32_i32_577 : BitVec 32 := 32#32
  let v557 : BitVec 32 := Scalar.remsi v556 c32_i32_577
  let c1_i32_581 : BitVec 32 := 1#32
  let v559 : BitVec 32 := Scalar.muli v557 c1_i32_581
  let v560 : BitVec 32 := Scalar.addi c0_i32_582 v559
  v560.toNat
def k0_dev38 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_585 : BitVec 32 := 32#32
  let v567 : BitVec 32 := Scalar.addi v2 c32_i32_585
  let c7_i32_586 : BitVec 32 := 7#32
  let v568 : BitVec 32 := Scalar.subi v567 c7_i32_586
  let c32_i32_587 : BitVec 32 := 32#32
  let v569 : BitVec 32 := Scalar.remsi v568 c32_i32_587
  let c1_i32_591 : BitVec 32 := 1#32
  let v571 : BitVec 32 := Scalar.muli v569 c1_i32_591
  let v572 : BitVec 32 := Scalar.addi c0_i32_592 v571
  v572.toNat
def k0_dev39 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_595 : BitVec 32 := 32#32
  let v579 : BitVec 32 := Scalar.addi v2 c32_i32_595
  let c8_i32_596 : BitVec 32 := 8#32
  let v580 : BitVec 32 := Scalar.subi v579 c8_i32_596
  let c32_i32_597 : BitVec 32 := 32#32
  let v581 : BitVec 32 := Scalar.remsi v580 c32_i32_597
  let c1_i32_601 : BitVec 32 := 1#32
  let v583 : BitVec 32 := Scalar.muli v581 c1_i32_601
  let v584 : BitVec 32 := Scalar.addi c0_i32_602 v583
  v584.toNat
def k0_dev40 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_605 : BitVec 32 := 32#32
  let v591 : BitVec 32 := Scalar.addi v2 c32_i32_605
  let c9_i32_606 : BitVec 32 := 9#32
  let v592 : BitVec 32 := Scalar.subi v591 c9_i32_606
  let c32_i32_607 : BitVec 32 := 32#32
  let v593 : BitVec 32 := Scalar.remsi v592 c32_i32_607
  let c1_i32_611 : BitVec 32 := 1#32
  let v595 : BitVec 32 := Scalar.muli v593 c1_i32_611
  let v596 : BitVec 32 := Scalar.addi c0_i32_612 v595
  v596.toNat
def k0_dev41 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_615 : BitVec 32 := 32#32
  let v603 : BitVec 32 := Scalar.addi v2 c32_i32_615
  let c10_i32_616 : BitVec 32 := 10#32
  let v604 : BitVec 32 := Scalar.subi v603 c10_i32_616
  let c32_i32_617 : BitVec 32 := 32#32
  let v605 : BitVec 32 := Scalar.remsi v604 c32_i32_617
  let c1_i32_621 : BitVec 32 := 1#32
  let v607 : BitVec 32 := Scalar.muli v605 c1_i32_621
  let v608 : BitVec 32 := Scalar.addi c0_i32_622 v607
  v608.toNat
def k0_dev42 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_625 : BitVec 32 := 32#32
  let v615 : BitVec 32 := Scalar.addi v2 c32_i32_625
  let c11_i32_626 : BitVec 32 := 11#32
  let v616 : BitVec 32 := Scalar.subi v615 c11_i32_626
  let c32_i32_627 : BitVec 32 := 32#32
  let v617 : BitVec 32 := Scalar.remsi v616 c32_i32_627
  let c1_i32_631 : BitVec 32 := 1#32
  let v619 : BitVec 32 := Scalar.muli v617 c1_i32_631
  let v620 : BitVec 32 := Scalar.addi c0_i32_632 v619
  v620.toNat
def k0_dev43 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_635 : BitVec 32 := 32#32
  let v627 : BitVec 32 := Scalar.addi v2 c32_i32_635
  let c12_i32_636 : BitVec 32 := 12#32
  let v628 : BitVec 32 := Scalar.subi v627 c12_i32_636
  let c32_i32_637 : BitVec 32 := 32#32
  let v629 : BitVec 32 := Scalar.remsi v628 c32_i32_637
  let c1_i32_641 : BitVec 32 := 1#32
  let v631 : BitVec 32 := Scalar.muli v629 c1_i32_641
  let v632 : BitVec 32 := Scalar.addi c0_i32_642 v631
  v632.toNat
def k0_dev44 (d0 : Dev nD) : Nat :=
  let c0_i32_652 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_645 : BitVec 32 := 32#32
  let v639 : BitVec 32 := Scalar.addi v2 c32_i32_645
  let c13_i32_646 : BitVec 32 := 13#32
  let v640 : BitVec 32 := Scalar.subi v639 c13_i32_646
  let c32_i32_647 : BitVec 32 := 32#32
  let v641 : BitVec 32 := Scalar.remsi v640 c32_i32_647
  let c1_i32_651 : BitVec 32 := 1#32
  let v643 : BitVec 32 := Scalar.muli v641 c1_i32_651
  let v644 : BitVec 32 := Scalar.addi c0_i32_652 v643
  v644.toNat
def k0_dev45 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_655 : BitVec 32 := 32#32
  let v651 : BitVec 32 := Scalar.addi v2 c32_i32_655
  let c14_i32_656 : BitVec 32 := 14#32
  let v652 : BitVec 32 := Scalar.subi v651 c14_i32_656
  let c32_i32_657 : BitVec 32 := 32#32
  let v653 : BitVec 32 := Scalar.remsi v652 c32_i32_657
  let c1_i32_661 : BitVec 32 := 1#32
  let v655 : BitVec 32 := Scalar.muli v653 c1_i32_661
  let v656 : BitVec 32 := Scalar.addi c0_i32_662 v655
  v656.toNat
def k0_dev46 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_665 : BitVec 32 := 32#32
  let v663 : BitVec 32 := Scalar.addi v2 c32_i32_665
  let c15_i32_666 : BitVec 32 := 15#32
  let v664 : BitVec 32 := Scalar.subi v663 c15_i32_666
  let c32_i32_667 : BitVec 32 := 32#32
  let v665 : BitVec 32 := Scalar.remsi v664 c32_i32_667
  let c1_i32_671 : BitVec 32 := 1#32
  let v667 : BitVec 32 := Scalar.muli v665 c1_i32_671
  let v668 : BitVec 32 := Scalar.addi c0_i32_672 v667
  v668.toNat
def k0_dev47 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_675 : BitVec 32 := 32#32
  let v675 : BitVec 32 := Scalar.addi v2 c32_i32_675
  let c16_i32_676 : BitVec 32 := 16#32
  let v676 : BitVec 32 := Scalar.subi v675 c16_i32_676
  let c32_i32_677 : BitVec 32 := 32#32
  let v677 : BitVec 32 := Scalar.remsi v676 c32_i32_677
  let c1_i32_681 : BitVec 32 := 1#32
  let v679 : BitVec 32 := Scalar.muli v677 c1_i32_681
  let v680 : BitVec 32 := Scalar.addi c0_i32_682 v679
  v680.toNat
def k0_dev48 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_686 : BitVec 32 := 32#32
  let v687 : BitVec 32 := Scalar.addi v2 c32_i32_686
  let c17_i32_687 : BitVec 32 := 17#32
  let v688 : BitVec 32 := Scalar.subi v687 c17_i32_687
  let c32_i32_688 : BitVec 32 := 32#32
  let v689 : BitVec 32 := Scalar.remsi v688 c32_i32_688
  let c1_i32_692 : BitVec 32 := 1#32
  let v691 : BitVec 32 := Scalar.muli v689 c1_i32_692
  let v692 : BitVec 32 := Scalar.addi c0_i32_693 v691
  v692.toNat
def k0_dev49 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_696 : BitVec 32 := 32#32
  let v699 : BitVec 32 := Scalar.addi v2 c32_i32_696
  let c18_i32_697 : BitVec 32 := 18#32
  let v700 : BitVec 32 := Scalar.subi v699 c18_i32_697
  let c32_i32_698 : BitVec 32 := 32#32
  let v701 : BitVec 32 := Scalar.remsi v700 c32_i32_698
  let c1_i32_702 : BitVec 32 := 1#32
  let v703 : BitVec 32 := Scalar.muli v701 c1_i32_702
  let v704 : BitVec 32 := Scalar.addi c0_i32_703 v703
  v704.toNat
def k0_dev50 (d0 : Dev nD) : Nat :=
  let c0_i32_713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_706 : BitVec 32 := 32#32
  let v711 : BitVec 32 := Scalar.addi v2 c32_i32_706
  let c19_i32_707 : BitVec 32 := 19#32
  let v712 : BitVec 32 := Scalar.subi v711 c19_i32_707
  let c32_i32_708 : BitVec 32 := 32#32
  let v713 : BitVec 32 := Scalar.remsi v712 c32_i32_708
  let c1_i32_712 : BitVec 32 := 1#32
  let v715 : BitVec 32 := Scalar.muli v713 c1_i32_712
  let v716 : BitVec 32 := Scalar.addi c0_i32_713 v715
  v716.toNat
def k0_dev51 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_716 : BitVec 32 := 32#32
  let v723 : BitVec 32 := Scalar.addi v2 c32_i32_716
  let c20_i32_717 : BitVec 32 := 20#32
  let v724 : BitVec 32 := Scalar.subi v723 c20_i32_717
  let c32_i32_718 : BitVec 32 := 32#32
  let v725 : BitVec 32 := Scalar.remsi v724 c32_i32_718
  let c1_i32_722 : BitVec 32 := 1#32
  let v727 : BitVec 32 := Scalar.muli v725 c1_i32_722
  let v728 : BitVec 32 := Scalar.addi c0_i32_723 v727
  v728.toNat
def k0_dev52 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_726 : BitVec 32 := 32#32
  let v735 : BitVec 32 := Scalar.addi v2 c32_i32_726
  let c21_i32_727 : BitVec 32 := 21#32
  let v736 : BitVec 32 := Scalar.subi v735 c21_i32_727
  let c32_i32_728 : BitVec 32 := 32#32
  let v737 : BitVec 32 := Scalar.remsi v736 c32_i32_728
  let c1_i32_732 : BitVec 32 := 1#32
  let v739 : BitVec 32 := Scalar.muli v737 c1_i32_732
  let v740 : BitVec 32 := Scalar.addi c0_i32_733 v739
  v740.toNat
def k0_dev53 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_736 : BitVec 32 := 32#32
  let v747 : BitVec 32 := Scalar.addi v2 c32_i32_736
  let c22_i32_737 : BitVec 32 := 22#32
  let v748 : BitVec 32 := Scalar.subi v747 c22_i32_737
  let c32_i32_738 : BitVec 32 := 32#32
  let v749 : BitVec 32 := Scalar.remsi v748 c32_i32_738
  let c1_i32_742 : BitVec 32 := 1#32
  let v751 : BitVec 32 := Scalar.muli v749 c1_i32_742
  let v752 : BitVec 32 := Scalar.addi c0_i32_743 v751
  v752.toNat
def k0_dev54 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_746 : BitVec 32 := 32#32
  let v759 : BitVec 32 := Scalar.addi v2 c32_i32_746
  let c23_i32_747 : BitVec 32 := 23#32
  let v760 : BitVec 32 := Scalar.subi v759 c23_i32_747
  let c32_i32_748 : BitVec 32 := 32#32
  let v761 : BitVec 32 := Scalar.remsi v760 c32_i32_748
  let c1_i32_752 : BitVec 32 := 1#32
  let v763 : BitVec 32 := Scalar.muli v761 c1_i32_752
  let v764 : BitVec 32 := Scalar.addi c0_i32_753 v763
  v764.toNat
def k0_dev55 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_756 : BitVec 32 := 32#32
  let v771 : BitVec 32 := Scalar.addi v2 c32_i32_756
  let c24_i32_757 : BitVec 32 := 24#32
  let v772 : BitVec 32 := Scalar.subi v771 c24_i32_757
  let c32_i32_758 : BitVec 32 := 32#32
  let v773 : BitVec 32 := Scalar.remsi v772 c32_i32_758
  let c1_i32_762 : BitVec 32 := 1#32
  let v775 : BitVec 32 := Scalar.muli v773 c1_i32_762
  let v776 : BitVec 32 := Scalar.addi c0_i32_763 v775
  v776.toNat
def k0_dev56 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_766 : BitVec 32 := 32#32
  let v783 : BitVec 32 := Scalar.addi v2 c32_i32_766
  let c25_i32_767 : BitVec 32 := 25#32
  let v784 : BitVec 32 := Scalar.subi v783 c25_i32_767
  let c32_i32_768 : BitVec 32 := 32#32
  let v785 : BitVec 32 := Scalar.remsi v784 c32_i32_768
  let c1_i32_772 : BitVec 32 := 1#32
  let v787 : BitVec 32 := Scalar.muli v785 c1_i32_772
  let v788 : BitVec 32 := Scalar.addi c0_i32_773 v787
  v788.toNat
def k0_dev57 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_776 : BitVec 32 := 32#32
  let v795 : BitVec 32 := Scalar.addi v2 c32_i32_776
  let c26_i32_777 : BitVec 32 := 26#32
  let v796 : BitVec 32 := Scalar.subi v795 c26_i32_777
  let c32_i32_778 : BitVec 32 := 32#32
  let v797 : BitVec 32 := Scalar.remsi v796 c32_i32_778
  let c1_i32_782 : BitVec 32 := 1#32
  let v799 : BitVec 32 := Scalar.muli v797 c1_i32_782
  let v800 : BitVec 32 := Scalar.addi c0_i32_783 v799
  v800.toNat
def k0_dev58 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_786 : BitVec 32 := 32#32
  let v807 : BitVec 32 := Scalar.addi v2 c32_i32_786
  let c27_i32_787 : BitVec 32 := 27#32
  let v808 : BitVec 32 := Scalar.subi v807 c27_i32_787
  let c32_i32_788 : BitVec 32 := 32#32
  let v809 : BitVec 32 := Scalar.remsi v808 c32_i32_788
  let c1_i32_792 : BitVec 32 := 1#32
  let v811 : BitVec 32 := Scalar.muli v809 c1_i32_792
  let v812 : BitVec 32 := Scalar.addi c0_i32_793 v811
  v812.toNat
def k0_dev59 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_796 : BitVec 32 := 32#32
  let v819 : BitVec 32 := Scalar.addi v2 c32_i32_796
  let c28_i32_797 : BitVec 32 := 28#32
  let v820 : BitVec 32 := Scalar.subi v819 c28_i32_797
  let c32_i32_798 : BitVec 32 := 32#32
  let v821 : BitVec 32 := Scalar.remsi v820 c32_i32_798
  let c1_i32_802 : BitVec 32 := 1#32
  let v823 : BitVec 32 := Scalar.muli v821 c1_i32_802
  let v824 : BitVec 32 := Scalar.addi c0_i32_803 v823
  v824.toNat
def k0_dev60 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_806 : BitVec 32 := 32#32
  let v831 : BitVec 32 := Scalar.addi v2 c32_i32_806
  let c29_i32_807 : BitVec 32 := 29#32
  let v832 : BitVec 32 := Scalar.subi v831 c29_i32_807
  let c32_i32_808 : BitVec 32 := 32#32
  let v833 : BitVec 32 := Scalar.remsi v832 c32_i32_808
  let c1_i32_812 : BitVec 32 := 1#32
  let v835 : BitVec 32 := Scalar.muli v833 c1_i32_812
  let v836 : BitVec 32 := Scalar.addi c0_i32_813 v835
  v836.toNat
def k0_dev61 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_816 : BitVec 32 := 32#32
  let v843 : BitVec 32 := Scalar.addi v2 c32_i32_816
  let c30_i32_817 : BitVec 32 := 30#32
  let v844 : BitVec 32 := Scalar.subi v843 c30_i32_817
  let c32_i32_818 : BitVec 32 := 32#32
  let v845 : BitVec 32 := Scalar.remsi v844 c32_i32_818
  let c1_i32_822 : BitVec 32 := 1#32
  let v847 : BitVec 32 := Scalar.muli v845 c1_i32_822
  let v848 : BitVec 32 := Scalar.addi c0_i32_823 v847
  v848.toNat
def k0_dev62 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_826 : BitVec 32 := 32#32
  let v855 : BitVec 32 := Scalar.addi v2 c32_i32_826
  let c31_i32_827 : BitVec 32 := 31#32
  let v856 : BitVec 32 := Scalar.subi v855 c31_i32_827
  let c32_i32_828 : BitVec 32 := 32#32
  let v857 : BitVec 32 := Scalar.remsi v856 c32_i32_828
  let c1_i32_832 : BitVec 32 := 1#32
  let v859 : BitVec 32 := Scalar.muli v857 c1_i32_832
  let v860 : BitVec 32 := Scalar.addi c0_i32_833 v859
  v860.toNat
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3513 : Index := Scalar.indexCast v2
  let c0_3851 : Index := 0#32
  let c0_3852 : Index := 0#32
  ![v3513.toNat, 0, 0]
def k0_off8 (d0 : Dev nD) (c1_i32_3853 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3517 : BitVec 32 := Scalar.addi v2 c1_i32_3853
  let c32_i32_3854 : BitVec 32 := 32#32
  let v3518 : BitVec 32 := Scalar.remsi v3517 c32_i32_3854
  ![v3518.toNat]
def k0_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3857 : BitVec 32 := 0#32
  let c0_i32_3858 : BitVec 32 := 0#32
  ![v2.toNat, 0, 0]
def k0_dev63 (d0 : Dev nD) : Nat :=
  let c0_i32_3856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3853 : BitVec 32 := 1#32
  let v3517 : BitVec 32 := Scalar.addi v2 c1_i32_3853
  let c32_i32_3854 : BitVec 32 := 32#32
  let v3518 : BitVec 32 := Scalar.remsi v3517 c32_i32_3854
  let c1_i32_3855 : BitVec 32 := 1#32
  let v3519 : BitVec 32 := Scalar.muli v3518 c1_i32_3855
  let v3520 : BitVec 32 := Scalar.addi c0_i32_3856 v3519
  v3520.toNat
def k0_dev64 (d0 : Dev nD) : Nat :=
  let c0_i32_3864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_3861 : BitVec 32 := 2#32
  let v3529 : BitVec 32 := Scalar.addi v2 c2_i32_3861
  let c32_i32_3862 : BitVec 32 := 32#32
  let v3530 : BitVec 32 := Scalar.remsi v3529 c32_i32_3862
  let c1_i32_3863 : BitVec 32 := 1#32
  let v3531 : BitVec 32 := Scalar.muli v3530 c1_i32_3863
  let v3532 : BitVec 32 := Scalar.addi c0_i32_3864 v3531
  v3532.toNat
def k0_dev65 (d0 : Dev nD) : Nat :=
  let c0_i32_3872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3869 : BitVec 32 := 3#32
  let v3541 : BitVec 32 := Scalar.addi v2 c3_i32_3869
  let c32_i32_3870 : BitVec 32 := 32#32
  let v3542 : BitVec 32 := Scalar.remsi v3541 c32_i32_3870
  let c1_i32_3871 : BitVec 32 := 1#32
  let v3543 : BitVec 32 := Scalar.muli v3542 c1_i32_3871
  let v3544 : BitVec 32 := Scalar.addi c0_i32_3872 v3543
  v3544.toNat
def k0_dev66 (d0 : Dev nD) : Nat :=
  let c0_i32_3880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_3877 : BitVec 32 := 4#32
  let v3553 : BitVec 32 := Scalar.addi v2 c4_i32_3877
  let c32_i32_3878 : BitVec 32 := 32#32
  let v3554 : BitVec 32 := Scalar.remsi v3553 c32_i32_3878
  let c1_i32_3879 : BitVec 32 := 1#32
  let v3555 : BitVec 32 := Scalar.muli v3554 c1_i32_3879
  let v3556 : BitVec 32 := Scalar.addi c0_i32_3880 v3555
  v3556.toNat
def k0_dev67 (d0 : Dev nD) : Nat :=
  let c0_i32_3888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_3885 : BitVec 32 := 5#32
  let v3565 : BitVec 32 := Scalar.addi v2 c5_i32_3885
  let c32_i32_3886 : BitVec 32 := 32#32
  let v3566 : BitVec 32 := Scalar.remsi v3565 c32_i32_3886
  let c1_i32_3887 : BitVec 32 := 1#32
  let v3567 : BitVec 32 := Scalar.muli v3566 c1_i32_3887
  let v3568 : BitVec 32 := Scalar.addi c0_i32_3888 v3567
  v3568.toNat
def k0_dev68 (d0 : Dev nD) : Nat :=
  let c0_i32_3896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_3893 : BitVec 32 := 6#32
  let v3577 : BitVec 32 := Scalar.addi v2 c6_i32_3893
  let c32_i32_3894 : BitVec 32 := 32#32
  let v3578 : BitVec 32 := Scalar.remsi v3577 c32_i32_3894
  let c1_i32_3895 : BitVec 32 := 1#32
  let v3579 : BitVec 32 := Scalar.muli v3578 c1_i32_3895
  let v3580 : BitVec 32 := Scalar.addi c0_i32_3896 v3579
  v3580.toNat
def k0_dev69 (d0 : Dev nD) : Nat :=
  let c0_i32_3904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3901 : BitVec 32 := 7#32
  let v3589 : BitVec 32 := Scalar.addi v2 c7_i32_3901
  let c32_i32_3902 : BitVec 32 := 32#32
  let v3590 : BitVec 32 := Scalar.remsi v3589 c32_i32_3902
  let c1_i32_3903 : BitVec 32 := 1#32
  let v3591 : BitVec 32 := Scalar.muli v3590 c1_i32_3903
  let v3592 : BitVec 32 := Scalar.addi c0_i32_3904 v3591
  v3592.toNat
def k0_dev70 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3909 : BitVec 32 := 8#32
  let v3601 : BitVec 32 := Scalar.addi v2 c8_i32_3909
  let c32_i32_3910 : BitVec 32 := 32#32
  let v3602 : BitVec 32 := Scalar.remsi v3601 c32_i32_3910
  let c1_i32_3911 : BitVec 32 := 1#32
  let v3603 : BitVec 32 := Scalar.muli v3602 c1_i32_3911
  let v3604 : BitVec 32 := Scalar.addi c0_i32_3912 v3603
  v3604.toNat
def k0_dev71 (d0 : Dev nD) : Nat :=
  let c0_i32_3920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3917 : BitVec 32 := 9#32
  let v3613 : BitVec 32 := Scalar.addi v2 c9_i32_3917
  let c32_i32_3918 : BitVec 32 := 32#32
  let v3614 : BitVec 32 := Scalar.remsi v3613 c32_i32_3918
  let c1_i32_3919 : BitVec 32 := 1#32
  let v3615 : BitVec 32 := Scalar.muli v3614 c1_i32_3919
  let v3616 : BitVec 32 := Scalar.addi c0_i32_3920 v3615
  v3616.toNat
def k0_dev72 (d0 : Dev nD) : Nat :=
  let c0_i32_3928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3925 : BitVec 32 := 10#32
  let v3625 : BitVec 32 := Scalar.addi v2 c10_i32_3925
  let c32_i32_3926 : BitVec 32 := 32#32
  let v3626 : BitVec 32 := Scalar.remsi v3625 c32_i32_3926
  let c1_i32_3927 : BitVec 32 := 1#32
  let v3627 : BitVec 32 := Scalar.muli v3626 c1_i32_3927
  let v3628 : BitVec 32 := Scalar.addi c0_i32_3928 v3627
  v3628.toNat
def k0_dev73 (d0 : Dev nD) : Nat :=
  let c0_i32_3936 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3933 : BitVec 32 := 11#32
  let v3637 : BitVec 32 := Scalar.addi v2 c11_i32_3933
  let c32_i32_3934 : BitVec 32 := 32#32
  let v3638 : BitVec 32 := Scalar.remsi v3637 c32_i32_3934
  let c1_i32_3935 : BitVec 32 := 1#32
  let v3639 : BitVec 32 := Scalar.muli v3638 c1_i32_3935
  let v3640 : BitVec 32 := Scalar.addi c0_i32_3936 v3639
  v3640.toNat
def k0_dev74 (d0 : Dev nD) : Nat :=
  let c0_i32_3944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3941 : BitVec 32 := 12#32
  let v3649 : BitVec 32 := Scalar.addi v2 c12_i32_3941
  let c32_i32_3942 : BitVec 32 := 32#32
  let v3650 : BitVec 32 := Scalar.remsi v3649 c32_i32_3942
  let c1_i32_3943 : BitVec 32 := 1#32
  let v3651 : BitVec 32 := Scalar.muli v3650 c1_i32_3943
  let v3652 : BitVec 32 := Scalar.addi c0_i32_3944 v3651
  v3652.toNat
def k0_dev75 (d0 : Dev nD) : Nat :=
  let c0_i32_3952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3949 : BitVec 32 := 13#32
  let v3661 : BitVec 32 := Scalar.addi v2 c13_i32_3949
  let c32_i32_3950 : BitVec 32 := 32#32
  let v3662 : BitVec 32 := Scalar.remsi v3661 c32_i32_3950
  let c1_i32_3951 : BitVec 32 := 1#32
  let v3663 : BitVec 32 := Scalar.muli v3662 c1_i32_3951
  let v3664 : BitVec 32 := Scalar.addi c0_i32_3952 v3663
  v3664.toNat
def k0_dev76 (d0 : Dev nD) : Nat :=
  let c0_i32_3960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3957 : BitVec 32 := 14#32
  let v3673 : BitVec 32 := Scalar.addi v2 c14_i32_3957
  let c32_i32_3958 : BitVec 32 := 32#32
  let v3674 : BitVec 32 := Scalar.remsi v3673 c32_i32_3958
  let c1_i32_3959 : BitVec 32 := 1#32
  let v3675 : BitVec 32 := Scalar.muli v3674 c1_i32_3959
  let v3676 : BitVec 32 := Scalar.addi c0_i32_3960 v3675
  v3676.toNat
def k0_dev77 (d0 : Dev nD) : Nat :=
  let c0_i32_3968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3965 : BitVec 32 := 15#32
  let v3685 : BitVec 32 := Scalar.addi v2 c15_i32_3965
  let c32_i32_3966 : BitVec 32 := 32#32
  let v3686 : BitVec 32 := Scalar.remsi v3685 c32_i32_3966
  let c1_i32_3967 : BitVec 32 := 1#32
  let v3687 : BitVec 32 := Scalar.muli v3686 c1_i32_3967
  let v3688 : BitVec 32 := Scalar.addi c0_i32_3968 v3687
  v3688.toNat
def k0_dev78 (d0 : Dev nD) : Nat :=
  let c0_i32_3976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3973 : BitVec 32 := 16#32
  let v3697 : BitVec 32 := Scalar.addi v2 c16_i32_3973
  let c32_i32_3974 : BitVec 32 := 32#32
  let v3698 : BitVec 32 := Scalar.remsi v3697 c32_i32_3974
  let c1_i32_3975 : BitVec 32 := 1#32
  let v3699 : BitVec 32 := Scalar.muli v3698 c1_i32_3975
  let v3700 : BitVec 32 := Scalar.addi c0_i32_3976 v3699
  v3700.toNat
def k0_dev79 (d0 : Dev nD) : Nat :=
  let c0_i32_3984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3981 : BitVec 32 := 17#32
  let v3709 : BitVec 32 := Scalar.addi v2 c17_i32_3981
  let c32_i32_3982 : BitVec 32 := 32#32
  let v3710 : BitVec 32 := Scalar.remsi v3709 c32_i32_3982
  let c1_i32_3983 : BitVec 32 := 1#32
  let v3711 : BitVec 32 := Scalar.muli v3710 c1_i32_3983
  let v3712 : BitVec 32 := Scalar.addi c0_i32_3984 v3711
  v3712.toNat
def k0_dev80 (d0 : Dev nD) : Nat :=
  let c0_i32_3992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3989 : BitVec 32 := 18#32
  let v3721 : BitVec 32 := Scalar.addi v2 c18_i32_3989
  let c32_i32_3990 : BitVec 32 := 32#32
  let v3722 : BitVec 32 := Scalar.remsi v3721 c32_i32_3990
  let c1_i32_3991 : BitVec 32 := 1#32
  let v3723 : BitVec 32 := Scalar.muli v3722 c1_i32_3991
  let v3724 : BitVec 32 := Scalar.addi c0_i32_3992 v3723
  v3724.toNat
def k0_dev81 (d0 : Dev nD) : Nat :=
  let c0_i32_4000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3997 : BitVec 32 := 19#32
  let v3733 : BitVec 32 := Scalar.addi v2 c19_i32_3997
  let c32_i32_3998 : BitVec 32 := 32#32
  let v3734 : BitVec 32 := Scalar.remsi v3733 c32_i32_3998
  let c1_i32_3999 : BitVec 32 := 1#32
  let v3735 : BitVec 32 := Scalar.muli v3734 c1_i32_3999
  let v3736 : BitVec 32 := Scalar.addi c0_i32_4000 v3735
  v3736.toNat
def k0_dev82 (d0 : Dev nD) : Nat :=
  let c0_i32_4008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_4005 : BitVec 32 := 20#32
  let v3745 : BitVec 32 := Scalar.addi v2 c20_i32_4005
  let c32_i32_4006 : BitVec 32 := 32#32
  let v3746 : BitVec 32 := Scalar.remsi v3745 c32_i32_4006
  let c1_i32_4007 : BitVec 32 := 1#32
  let v3747 : BitVec 32 := Scalar.muli v3746 c1_i32_4007
  let v3748 : BitVec 32 := Scalar.addi c0_i32_4008 v3747
  v3748.toNat
def k0_dev83 (d0 : Dev nD) : Nat :=
  let c0_i32_4016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_4013 : BitVec 32 := 21#32
  let v3757 : BitVec 32 := Scalar.addi v2 c21_i32_4013
  let c32_i32_4014 : BitVec 32 := 32#32
  let v3758 : BitVec 32 := Scalar.remsi v3757 c32_i32_4014
  let c1_i32_4015 : BitVec 32 := 1#32
  let v3759 : BitVec 32 := Scalar.muli v3758 c1_i32_4015
  let v3760 : BitVec 32 := Scalar.addi c0_i32_4016 v3759
  v3760.toNat
def k0_dev84 (d0 : Dev nD) : Nat :=
  let c0_i32_4024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_4021 : BitVec 32 := 22#32
  let v3769 : BitVec 32 := Scalar.addi v2 c22_i32_4021
  let c32_i32_4022 : BitVec 32 := 32#32
  let v3770 : BitVec 32 := Scalar.remsi v3769 c32_i32_4022
  let c1_i32_4023 : BitVec 32 := 1#32
  let v3771 : BitVec 32 := Scalar.muli v3770 c1_i32_4023
  let v3772 : BitVec 32 := Scalar.addi c0_i32_4024 v3771
  v3772.toNat
def k0_dev85 (d0 : Dev nD) : Nat :=
  let c0_i32_4032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_4029 : BitVec 32 := 23#32
  let v3781 : BitVec 32 := Scalar.addi v2 c23_i32_4029
  let c32_i32_4030 : BitVec 32 := 32#32
  let v3782 : BitVec 32 := Scalar.remsi v3781 c32_i32_4030
  let c1_i32_4031 : BitVec 32 := 1#32
  let v3783 : BitVec 32 := Scalar.muli v3782 c1_i32_4031
  let v3784 : BitVec 32 := Scalar.addi c0_i32_4032 v3783
  v3784.toNat
def k0_dev86 (d0 : Dev nD) : Nat :=
  let c0_i32_4040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_4037 : BitVec 32 := 24#32
  let v3793 : BitVec 32 := Scalar.addi v2 c24_i32_4037
  let c32_i32_4038 : BitVec 32 := 32#32
  let v3794 : BitVec 32 := Scalar.remsi v3793 c32_i32_4038
  let c1_i32_4039 : BitVec 32 := 1#32
  let v3795 : BitVec 32 := Scalar.muli v3794 c1_i32_4039
  let v3796 : BitVec 32 := Scalar.addi c0_i32_4040 v3795
  v3796.toNat
def k0_dev87 (d0 : Dev nD) : Nat :=
  let c0_i32_4048 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_4045 : BitVec 32 := 25#32
  let v3805 : BitVec 32 := Scalar.addi v2 c25_i32_4045
  let c32_i32_4046 : BitVec 32 := 32#32
  let v3806 : BitVec 32 := Scalar.remsi v3805 c32_i32_4046
  let c1_i32_4047 : BitVec 32 := 1#32
  let v3807 : BitVec 32 := Scalar.muli v3806 c1_i32_4047
  let v3808 : BitVec 32 := Scalar.addi c0_i32_4048 v3807
  v3808.toNat
def k0_dev88 (d0 : Dev nD) : Nat :=
  let c0_i32_4056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_4053 : BitVec 32 := 26#32
  let v3817 : BitVec 32 := Scalar.addi v2 c26_i32_4053
  let c32_i32_4054 : BitVec 32 := 32#32
  let v3818 : BitVec 32 := Scalar.remsi v3817 c32_i32_4054
  let c1_i32_4055 : BitVec 32 := 1#32
  let v3819 : BitVec 32 := Scalar.muli v3818 c1_i32_4055
  let v3820 : BitVec 32 := Scalar.addi c0_i32_4056 v3819
  v3820.toNat
def k0_dev89 (d0 : Dev nD) : Nat :=
  let c0_i32_4064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_4061 : BitVec 32 := 27#32
  let v3829 : BitVec 32 := Scalar.addi v2 c27_i32_4061
  let c32_i32_4062 : BitVec 32 := 32#32
  let v3830 : BitVec 32 := Scalar.remsi v3829 c32_i32_4062
  let c1_i32_4063 : BitVec 32 := 1#32
  let v3831 : BitVec 32 := Scalar.muli v3830 c1_i32_4063
  let v3832 : BitVec 32 := Scalar.addi c0_i32_4064 v3831
  v3832.toNat
def k0_dev90 (d0 : Dev nD) : Nat :=
  let c0_i32_4072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_4069 : BitVec 32 := 28#32
  let v3841 : BitVec 32 := Scalar.addi v2 c28_i32_4069
  let c32_i32_4070 : BitVec 32 := 32#32
  let v3842 : BitVec 32 := Scalar.remsi v3841 c32_i32_4070
  let c1_i32_4071 : BitVec 32 := 1#32
  let v3843 : BitVec 32 := Scalar.muli v3842 c1_i32_4071
  let v3844 : BitVec 32 := Scalar.addi c0_i32_4072 v3843
  v3844.toNat
def k0_dev91 (d0 : Dev nD) : Nat :=
  let c0_i32_4080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_4077 : BitVec 32 := 29#32
  let v3853 : BitVec 32 := Scalar.addi v2 c29_i32_4077
  let c32_i32_4078 : BitVec 32 := 32#32
  let v3854 : BitVec 32 := Scalar.remsi v3853 c32_i32_4078
  let c1_i32_4079 : BitVec 32 := 1#32
  let v3855 : BitVec 32 := Scalar.muli v3854 c1_i32_4079
  let v3856 : BitVec 32 := Scalar.addi c0_i32_4080 v3855
  v3856.toNat
def k0_dev92 (d0 : Dev nD) : Nat :=
  let c0_i32_4088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_4085 : BitVec 32 := 30#32
  let v3865 : BitVec 32 := Scalar.addi v2 c30_i32_4085
  let c32_i32_4086 : BitVec 32 := 32#32
  let v3866 : BitVec 32 := Scalar.remsi v3865 c32_i32_4086
  let c1_i32_4087 : BitVec 32 := 1#32
  let v3867 : BitVec 32 := Scalar.muli v3866 c1_i32_4087
  let v3868 : BitVec 32 := Scalar.addi c0_i32_4088 v3867
  v3868.toNat
def k0_dev93 (d0 : Dev nD) : Nat :=
  let c0_i32_4096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_4093 : BitVec 32 := 31#32
  let v3877 : BitVec 32 := Scalar.addi v2 c31_i32_4093
  let c32_i32_4094 : BitVec 32 := 32#32
  let v3878 : BitVec 32 := Scalar.remsi v3877 c32_i32_4094
  let c1_i32_4095 : BitVec 32 := 1#32
  let v3879 : BitVec 32 := Scalar.muli v3878 c1_i32_4095
  let v3880 : BitVec 32 := Scalar.addi c0_i32_4096 v3879
  v3880.toNat
def k0_off11 (d0 : Dev nD) (c1_i32_4101 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3889 : BitVec 32 := Scalar.addi v2 c1_i32_4101
  let c32_i32_4102 : BitVec 32 := 32#32
  let v3890 : BitVec 32 := Scalar.remsi v3889 c32_i32_4102
  let c0_i32_4105 : BitVec 32 := 0#32
  let c0_i32_4106 : BitVec 32 := 0#32
  ![v3890.toNat, 0, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/-
  The kernel's body in structured form: the same memory operations in the same order, each family written once at a
  symbolic index and repeated by `each`. `body_eq` says that the printed body is this program.
-/
module

public import proofs.«01_k».proof.Proof.Gen.KernelIdeal
public import proofs.«01_k».proof.Proof.Gen.KernelIdeal.Skeleton

@[expose] public section

noncomputable section

namespace Cert.KernelIdeal.Own

open Idealize.ShloMosaic Idealize.ShloMosaic.TcCoe
open Idealize.SL Idealize.SL.Sem
open Cert.KernelIdeal.Gen

variable {F : FTy → Type} [FloatOps F]

/-- Programs of one device's core. -/
abbrev PG (F : FTy → Type) : Type 1 := Prog (TpuEff nD τ sig (Elt F) Λ₀ .tc) PUnit

/-- Run `f i` for each `i` of the list, then `k`. -/
def each {α : Type} (l : List α) (f : α → PG F → PG F) (k : PG F) : PG F := l.foldr f k

/-! ## The buffers -/

/-- The staged columns of `x`, the operand `w`, the staged rows of the result. -/
abbrev xM : Memref sig .tc .vmem S4096x128 .f32 := Memref.whole cc0_stg0_0
abbrev wM : Memref sig .tc .hbm S4096x8192 .f32 := Memref.whole main_arg1
abbrev oM : Memref sig .tc .vmem S128x8192 .f32 := Memref.whole cc0_stg1_0
/-- The gathered rows of `x`, the table of maxima, the ring of panels of `w`. -/
abbrev gM : Memref sig .tc .vmem S128x4096 .f32 := Memref.whole cc0_scratch0
abbrev aM : Memref sig .tc .vmem S32x8x128 .f32 := Memref.whole cc0_scratch1
abbrev bM : Memref sig .tc .vmem S10x512x2048 .f32 := Memref.whole cc0_scratch2

/-! ## The words the kernel computes -/

/-- This device's number as the kernel computes it. -/
def meW (d : Dev nD) : BitVec 32 := Scalar.remsi (Scalar.divsi (Dev.word d) 1#32) 32#32

/-- The device `w` places after `d`. -/
def fwdN (d : Dev nD) (w : BitVec 32) : ℕ :=
  (Scalar.addi 0#32 (Scalar.muli (Scalar.remsi (Scalar.addi (meW d) w) 32#32) 1#32)).toNat

/-- The device `w` places before `d`. -/
def bwdN (d : Dev nD) (w : BitVec 32) : ℕ :=
  (Scalar.addi 0#32 (Scalar.muli (Scalar.remsi (Scalar.subi (Scalar.addi (meW d) 32#32) w) 32#32) 1#32)).toNat

/-- The offset number `j` of the 31 other devices, as a word. -/
abbrev offW (j : Fin 31) : BitVec 32 := BitVec.ofNat 32 (1 + j.val)

theorem fwdN_eq : ∀ (d : Dev nD) (j : Fin 31), fwdN d (offW j) = (d.val + (1 + j.val)) % 32 := by decide +kernel
theorem bwdN_eq : ∀ (d : Dev nD) (j : Fin 31), bwdN d (offW j) = (d.val + (31 - j.val)) % 32 := by decide +kernel

/-- The other device number `j`, going forward and going backward round the ring. -/
def fwd (d : Dev nD) (j : Fin 31) : Dev nD := ⟨fwdN d (offW j), by rw [fwdN_eq]; exact Nat.mod_lt _ (by decide)⟩
def bwd (d : Dev nD) (j : Fin 31) : Dev nD := ⟨bwdN d (offW j), by rw [bwdN_eq]; exact Nat.mod_lt _ (by decide)⟩

/-! ## The pieces of the buffers -/

theorem inb_slot (t : Fin 32) : ∀ a, (![0, 128 * t.val] : Fin 2 → ℕ) a + S128x128.size a ≤ S128x4096.size a := by
  revert t; decide
theorem inb_wsem (s : Fin 10) (q : Fin 4) : ∀ a, (![s.val, q.val] : Fin 2 → ℕ) a + S1x1.size a ≤ S10x4.size a := by
  revert s q; decide
theorem inb_wrow (s : Fin 10) (q : Fin 4) :
    ∀ a, (![s.val, 128 * q.val, 0] : Fin 3 → ℕ) a + S1x128x2048.size a ≤ S10x512x2048.size a := by
  revert s q; decide
theorem inb_sem (t : Fin 32) : ∀ a, (![t.val] : Fin 1 → ℕ) a + S1.size a ≤ S32.size a := by
  revert t; decide
theorem inb_group (p : Fin 8) : ∀ a, (![0, 512 * p.val] : Fin 2 → ℕ) a + S128x512.size a ≤ S128x4096.size a := by
  revert p; decide
theorem inb_panel (s : Fin 10) : ∀ a, (![s.val, 0, 0] : Fin 3 → ℕ) a + S1x512x2048.size a ≤ S10x512x2048.size a := by
  revert s; decide
theorem inb_cols (c : Fin 4) : ∀ a, (![0, 2048 * c.val] : Fin 2 → ℕ) a + S128x2048.size a ≤ S128x8192.size a := by
  revert c; decide

/-- Where the rows of `w` for panel `(p, c)`, part `q`, start. -/
def wOff (d : Dev nD) (p : Fin 8) (c q : Fin 4) : Fin 2 → ℕ :=
  ![k0_off2 d (BitVec.ofNat 32 (4 * p.val)) (BitVec.ofNat 32 q.val) 0, 2048 * c.val]

theorem wOff_eq (d : Dev nD) (p : Fin 8) (c q : Fin 4) :
    wOff d p c q = ![128 * ((d.val + 4 * p.val + q.val) % 32), 2048 * c.val] := by
  unfold wOff; rw [k0_off2_eq]; rfl

theorem inb_wOff (d : Dev nD) (p : Fin 8) (c q : Fin 4) : ∀ a, wOff d p c q a + S128x2048.size a ≤ S4096x8192.size a := by
  rw [wOff_eq]
  have h : (d.val + 4 * p.val + q.val) % 32 < 32 := Nat.mod_lt _ (by decide)
  intro a; fin_cases a
  · show 128 * _ + 128 ≤ 4096; omega
  · show 2048 * c.val + 2048 ≤ 8192; have := c.isLt; omega

/-- The step number `i` works on row group `pOf i` and column group `cOf i`, in the ring's panel `sOf i`. -/
def pOf (i : Fin 32) : Fin 8 := ⟨i.val / 4, by have := i.isLt; omega⟩
def cOf (i : Fin 32) : Fin 4 := ⟨i.val % 4, Nat.mod_lt _ (by decide)⟩
def sOf (i : Fin 32) : Fin 10 := ⟨i.val % 10, Nat.mod_lt _ (by decide)⟩

/-- Semaphores: of a part of a panel, and of one slot of a row of 32. -/
abbrev wSem (s : Fin 10) (q : Fin 4) : DmaSem sig :=
  ((cc0_scratch3.slice (Rect.unit (s := S10x4) ![s.val, q.val] S1x1.size (inb_wsem s q))).squeeze S_ squeezes_S1x1_S_).sem
abbrev semAt (A : DmaSems sig S32) (t : Fin 32) : DmaSem sig :=
  ((A.slice (Rect.unit (s := S32) ![t.val] S1.size (inb_sem t))).squeeze S_ squeezes_S1_S_).sem
abbrev semMe (A : DmaSems sig S32) (d : Dev nD) : DmaSem sig :=
  ((A.slice (Rect.unit (s := S32) (k0_off9 d) S1.size (k0_off9_inb d))).squeeze S_ squeezes_S1_S_).sem
abbrev semFwd (A : DmaSems sig S32) (d : Dev nD) (j : Fin 31) : DmaSem sig :=
  ((A.slice (Rect.unit (s := S32) (k0_off8 d (offW j)) S1.size (k0_off8_inb d j))).squeeze S_ squeezes_S1_S_).sem
abbrev barS : Sem sig := (SemArray.scalar (sig.barrier 0 rfl) : Sems sig S_).sem

/-- Part `q` of panel `s` of the ring, and the rows of `w` that step `i` puts there. -/
abbrev bPart (s : Fin 10) (q : Fin 4) : Memref sig .tc .vmem S128x2048 .f32 :=
  (bM.slice (Rect.unit (s := S10x512x2048) ![s.val, 128 * q.val, 0] S1x128x2048.size (inb_wrow s q)) (fun _ => rfl)).squeeze
    S128x2048 squeezes_S1x128x2048_S128x2048
abbrev wPart (d : Dev nD) (i : Fin 32) (q : Fin 4) : Memref sig .tc .hbm S128x2048 .f32 :=
  wM.slice (Rect.unit (s := S4096x8192) (wOff d (pOf i) (cOf i) q) S128x2048.size (inb_wOff d (pOf i) (cOf i) q)) (fun _ => rfl)
/-- Slot `t` of the gathered rows, the rows of `x` meant for the other device number `j`, a device's row of the table. -/
abbrev gSlot (t : Fin 32) : Memref sig .tc .vmem S128x128 .f32 :=
  gM.slice (Rect.unit (s := S128x4096) ![0, 128 * t.val] S128x128.size (inb_slot t)) (fun _ => rfl)
abbrev xRows (d : Dev nD) (j : Fin 31) : Memref sig .tc .vmem S128x128 .f32 :=
  xM.slice (Rect.unit (s := S4096x128) (k0_off6 d (offW j)) S128x128.size (k0_off6_inb d j)) (fun _ => rfl)
abbrev aMe (d : Dev nD) : Memref sig .tc .vmem S8x128 .f32 :=
  (aM.slice (Rect.unit (s := S32x8x128) (k0_off10 d) S1x8x128.size (k0_off10_inb d)) (fun _ => rfl)).squeeze
    S8x128 squeezes_S1x8x128_S8x128
abbrev aFwd (d : Dev nD) (j : Fin 31) : Memref sig .tc .vmem S8x128 .f32 :=
  (aM.slice (Rect.unit (s := S32x8x128) (k0_off11 d (offW j)) S1x8x128.size (k0_off11_inb d j)) (fun _ => rfl)).squeeze
    S8x128 squeezes_S1x8x128_S8x128
/-- The slot the other device number `j`'s rows arrive in. -/
def slotOf (j : Fin 31) : Fin 32 := ⟨1 + j.val, by have := j.isLt; omega⟩

/-! ## The operations -/

/-- Start, and wait for, the copy of one part of a panel. -/
def wStart (d : Dev nD) (i : Fin 32) (q : Fin 4) (k : PG F) : PG F :=
  .op (.enqueueDma (wPart d i q) (.here (bPart (sOf i) q)) (.dma (wSem (sOf i) q)) (View.wordExact_bits rfl)
    ((View.wordExact_bits rfl).reshape _ _) ⟨Or.inl rfl, trivial⟩) fun _ => k
def wWait (d : Dev nD) (i : Fin 32) (q : Fin 4) (k : PG F) : PG F :=
  .op (.waitDma2 (wSem (sOf i) q) (wPart d i q) (bPart (sOf i) q) (View.wordExact_bits rfl)
    ((View.wordExact_bits rfl).reshape _ _)) fun _ => k

/-- Tell the other device number `j` that this one is ready. -/
def sig1 (d : Dev nD) (j : Fin 31) (k : PG F) : PG F := .op (.semSignal (fwd d j) barS 1) fun _ => k

/-- Send the other device number `j` (backward) its rows of `x`; wait for the sending to be over; wait for the
    rows that come. -/
def xSend (d : Dev nD) (j : Fin 31) (k : PG F) : PG F :=
  .op (.enqueueDma (xRows d j) (.remote (Dev.tc (bwd d j)) (gSlot (slotOf j)) (.dma (semAt cc0_scratch4 (slotOf j))))
    (.dma (semAt cc0_scratch5 (slotOf j))) (View.wordExact_bits rfl) (View.wordExact_bits rfl) ⟨⟨rfl, Or.inl rfl⟩, trivial⟩) fun _ => k
def xSent (d : Dev nD) (j : Fin 31) (k : PG F) : PG F :=
  .op (.waitDma2 (semAt cc0_scratch4 (slotOf j)) (gSlot (slotOf j)) (xRows d j) (View.wordExact_bits rfl)
    (View.wordExact_bits rfl)) fun _ => k
def xRecv (j : Fin 31) (k : PG F) : PG F :=
  .op (.waitDma2 (semAt cc0_scratch5 (slotOf j))
    (xM.slice (Rect.unit (s := S4096x128) ![0, 0] S128x128.size inb_S4096x128_S128x128_0_0) (fun _ => rfl) : Memref sig .tc .vmem S128x128 .f32)
    (gSlot (slotOf j)) (View.wordExact_bits rfl) (View.wordExact_bits rfl)) fun _ => k

/-- Send the other device number `j` (forward) this device's maximum; wait for the sending, and for the maximum that
    comes from it. -/
def aSend (d : Dev nD) (j : Fin 31) (k : PG F) : PG F :=
  .op (.enqueueDma (aMe d) (.remote (Dev.tc (fwd d j)) (aMe d) (.dma (semFwd cc0_scratch6 d j)))
    (.dma (semMe cc0_scratch7 d)) ((View.wordExact_bits rfl).reshape _ _) ((View.wordExact_bits rfl).reshape _ _)
    ⟨⟨rfl, Or.inl rfl⟩, trivial⟩) fun _ => k
def aRecv (d : Dev nD) (j : Fin 31) (k : PG F) : PG F :=
  .op (.waitDma2 (semFwd cc0_scratch7 d j) (aMe d) (aFwd d j) ((View.wordExact_bits rfl).reshape _ _)
    ((View.wordExact_bits rfl).reshape _ _)) fun _ => k
def aSent (d : Dev nD) (j : Fin 31) (k : PG F) : PG F :=
  .op (.waitDma2 (semFwd cc0_scratch6 d j) (aMe d) (aMe d) ((View.wordExact_bits rfl).reshape _ _)
    ((View.wordExact_bits rfl).reshape _ _)) fun _ => k

/-- The rectangles the vector operations read and write. -/
abbrev gRect (p : Fin 8) : Rect S128x4096 := Rect.unit (s := S128x4096) ![0, 512 * p.val] S128x512.size (inb_group p)
abbrev bRect (s : Fin 10) : Rect S10x512x2048 := Rect.unit (s := S10x512x2048) ![s.val, 0, 0] S1x512x2048.size (inb_panel s)
abbrev oRect (c : Fin 4) : Rect S128x8192 := Rect.unit (s := S128x8192) ![0, 2048 * c.val] S128x2048.size (inb_cols c)

def ldG (p : Fin 8) (k : Vec F S128x512 .f32 → PG F) : PG F :=
  .op (.load gM (gRect p).toLoadRect (View.loadsAt_vmem h_S128x512)) k
def ldB (s : Fin 10) (k : Vec F S1x512x2048 .f32 → PG F) : PG F :=
  .op (.load bM (bRect s).toLoadRect (View.loadsAt_vmem h_S1x512x2048)) k
def ldO (c : Fin 4) (k : Vec F S128x2048 .f32 → PG F) : PG F :=
  .op (.load oM (oRect c).toLoadRect (View.loadsAt_vmem h_S128x2048)) k
def stO (c : Fin 4) (v : FVec F S128x2048 .f32) (k : PG F) : PG F :=
  .op (.store oM (oRect c) v Finset.univ (View.stores_vmem_bits_univ h_S128x2048 rfl) (.inl rfl)) fun _ => k

/-- The waits before step `i`'s product: when a row group starts, for its four slots (slot 0 is this device's own). -/
def waits (d : Dev nD) (i : Fin 32) (k : PG F) : PG F :=
  let k' := each (List.finRange 4) (wWait d i) k
  if i.val = 0 then xRecv 0 (xRecv 1 (xRecv 2 k'))
  else if h : i.val % 4 = 0 ∧ 0 < i.val then
    each (List.finRange 4) (fun q k => xRecv (F := F) ⟨i.val + q.val - 1, by have := i.isLt; have := q.isLt; omega⟩ k) k'
  else k'

/-- The next copies: the panel that step `i` has read is filled for step `i + 10`. -/
def refill (d : Dev nD) (i : Fin 32) (k : PG F) : PG F :=
  if h : i.val + 10 < 32 then each (List.finRange 4) (wStart d ⟨i.val + 10, h⟩) k else k

/-- The product of step `i` stored (row group 0) or added (the others); the stored block is handed on. -/
def step (d : Dev nD) (i : Fin 32) (k : FVec F S128x2048 .f32 → PG F) : PG F :=
  waits d i <| ldG (pOf i) fun g => ldB (sOf i) fun b =>
    if i.val < 4 then ldO (cOf i) fun _ => stO (cOf i) (k0_pay3 g b) (refill d i (k (k0_pay3 g b)))
    else ldO (cOf i) fun o => ldO (cOf i) fun _ => stO (cOf i) (k0_pay7 g b o) (refill d i (k (k0_pay7 g b o)))

/-- The largest absolute value of a block. -/
def bmax (v : FVec F S128x2048 .f32) : F .f32 :=
  extractAt ![0, 0, 0] (shapeCast S1x1x1 (multiReduction .maximumf [1, 2] S1 (shapeCast S1x128x2048 (absf v) shapeCasts_S128x2048_S1x128x2048)
    0xFF800000#32 reduces_S1x128x2048_S1 (.inl rfl) rfl) shapeCasts_S1_S1x1x1) inpos_S1x1x1_p0_0_0

/-- The steps `4 p + c`, their blocks dropped. -/
def steps28 (d : Dev nD) (k : PG F) : PG F :=
  each (List.finRange 28) (fun i k => step d ⟨i.val, by have := i.isLt; omega⟩ fun _ => k) k

/-- The end: the table's maximum, and the result quantised with it. -/
def finish (k : PG F) : PG F :=
  .op (.load aM (Rect.unit (s := S32x8x128) ![0, 0, 0] S32x8x128.size inb_S32x8x128_S32x8x128_0_0_0).toLoadRect (View.loadsAt_vmem h_S32x8x128)) fun t =>
  .op (.load oM (Rect.unit (s := S128x8192) ![0, 0] S128x8192.size inb_S128x8192_S128x8192_0_0).toLoadRect (View.loadsAt_vmem h_S128x8192)) fun o =>
  .op (.load oM (Rect.unit (s := S128x8192) ![0, 0] S128x8192.size inb_S128x8192_S128x8192_0_0).toLoadRect (View.loadsAt_vmem h_S128x8192)) fun _ =>
  .op (.store oM (Rect.unit (s := S128x8192) ![0, 0] S128x8192.size inb_S128x8192_S128x8192_0_0) (k0_pay1 (k0_pay49 t) (k0_pay50 t) o)
    Finset.univ (View.stores_vmem_bits_univ h_S128x8192 rfl) (.inl rfl)) fun _ => k

/-- The exchange of the maxima. -/
def exchange (d : Dev nD) (a₀ a₁ a₂ a₃ : F .f32) (k : PG F) : PG F :=
  .op (.load aM (Rect.unit (s := S32x8x128) (k0_off7 d) S1x8x128.size (k0_off7_inb d)).toLoadRect (View.loadsAt_vmem h_S1x8x128)) fun _ =>
  .op (.store aM (Rect.unit (s := S32x8x128) (k0_off7 d) S1x8x128.size (k0_off7_inb d)) (k0_pay48 a₀ a₁ a₂ a₃)
    Finset.univ (View.stores_vmem_bits_univ h_S1x8x128 rfl) (.inl rfl)) fun _ =>
  each (List.finRange 31) (aSend d) <| each (List.finRange 31) (aRecv d) <| each (List.finRange 31) (aSent d) k

/-- The start: this device's own rows put in slot 0. -/
def own (d : Dev nD) (k : PG F) : PG F :=
  .op (.load xM (Rect.unit (s := S4096x128) (k0_off1 d) S128x128.size (k0_off1_inb d)).toLoadRect (View.loadsAt_vmem h_S128x128)) fun v =>
  .op (.load gM (Rect.unit (s := S128x4096) ![0, 0] S128x128.size inb_S128x4096_S128x128_0_0).toLoadRect (View.loadsAt_vmem h_S128x128)) fun _ =>
  .op (.store gM (Rect.unit (s := S128x4096) ![0, 0] S128x128.size inb_S128x4096_S128x128_0_0) (k0_pay2 v)
    Finset.univ (View.stores_vmem_bits_univ h_S128x128 rfl) (.inl rfl)) fun _ => k

/-- The whole body on device `d`. -/
def bodyOn (d : Dev nD) : PG F :=
  own d <|
  each (List.finRange 10) (fun i k => each (List.finRange 4) (wStart d ⟨i.val, by have := i.isLt; omega⟩) k) <|
  each (List.finRange 31) (sig1 d) <|
  .op (.semWait barS 31) fun _ =>
  each (List.finRange 31) (xSend d) <|
  steps28 d <|
  step d 28 fun b₀ => step d 29 fun b₁ => step d 30 fun b₂ => step d 31 fun b₃ =>
  each (List.finRange 31) (xSent d) <|
  exchange d (bmax b₀) (bmax b₁) (bmax b₂) (bmax b₃) <|
  finish (.ret ⟨⟩)

def body : PG F := .op .deviceId bodyOn

set_option maxRecDepth 65536 in
theorem body_eq : cc0_body (F := F) xM (Memref.isWhole_whole _) wM (Memref.isWhole_whole _) oM (Memref.isWhole_whole _)
    gM (Memref.isWhole_whole _) aM (Memref.isWhole_whole _) bM (Memref.isWhole_whole _) cc0_scratch3 cc0_scratch4 cc0_scratch5
    cc0_scratch6 cc0_scratch7 = body (F := F) := rfl

end Cert.KernelIdeal.Own

end
-- ==== Proof.Geom.lean ====
/-
  The pieces of the buffers as sets of elements, and the contents that the copies leave in them.
-/
module

public import proofs.«01_k».proof.Proof.Prog
public import Idealize.ShloMosaic.Lib.Pipeline.Kit
public import Idealize.ShloMosaic.Lib.ValueLayout
public import Idealize.ShloMosaic.Lib.Pipeline.ValueKit

@[expose] public section

noncomputable section

namespace Cert.KernelIdeal.Own

open Idealize.ShloMosaic Idealize.ShloMosaic.TcCoe
open Cert.KernelIdeal.Gen

variable {F : FTy → Type} [FloatOps F]

/-! ## The ring of devices -/

/-- The device with number `n`, counted round the ring. -/
def devOf (n : ℕ) : Dev nD := ⟨n % 32, Nat.mod_lt _ (by decide)⟩

theorem fwd_val (d : Dev nD) (j : Fin 31) : (fwd d j).val = (d.val + (1 + j.val)) % 32 := fwdN_eq d j
theorem bwd_val (d : Dev nD) (j : Fin 31) : (bwd d j).val = (d.val + (31 - j.val)) % 32 := bwdN_eq d j

theorem dev_lt (d : Dev nD) : d.val < 32 := d.isLt

theorem fwd_bwd (d : Dev nD) (j : Fin 31) : fwd (bwd d j) j = d := by
  refine Fin.ext ?_; rw [fwd_val, bwd_val]; have := dev_lt d; have := j.isLt; omega
theorem bwd_fwd (d : Dev nD) (j : Fin 31) : bwd (fwd d j) j = d := by
  refine Fin.ext ?_; rw [bwd_val, fwd_val]; have := dev_lt d; have := j.isLt; omega
theorem bwd_rev (d : Dev nD) (j : Fin 31) : bwd d (Fin.rev j) = fwd d j := by
  refine Fin.ext ?_; rw [bwd_val, fwd_val, Fin.val_rev]; have := dev_lt d; have := j.isLt; omega
theorem fwd_inj (d : Dev nD) : Function.Injective (fwd d) := fun i j h => by
  have := congrArg Fin.val h; rw [fwd_val, fwd_val] at this; have := dev_lt d; have := i.isLt; have := j.isLt
  exact Fin.ext (by omega)
theorem fwd_ne (d : Dev nD) (j : Fin 31) : fwd d j ≠ d := fun h => by
  have := congrArg Fin.val h; rw [fwd_val] at this; have := dev_lt d; have := j.isLt; omega
theorem ne_fwd {d e : Dev nD} (h : e ≠ d) : ∃ j, fwd d j = e := by
  have hd := dev_lt d; have he := dev_lt e; have hn : e.val ≠ d.val := fun h' => h (Fin.ext h')
  refine ⟨⟨(e.val + 31 - d.val) % 32, by omega⟩, Fin.ext ?_⟩; rw [fwd_val]; show (d.val + (1 + (e.val + 31 - d.val) % 32)) % 32 = e.val
  omega

/-- One place forward and one place backward, for a fixed `j`, undo each other. -/
def turn (j : Fin 31) : Dev nD ≃ Dev nD := ⟨fun d => fwd d j, fun d => bwd d j, fun d => bwd_fwd d j, fun d => fwd_bwd d j⟩

/-! ## The pieces as sets -/

theorem mem_gSlot (t : Fin 32) (i : S128x4096.Idx) :
    i ∈ (gSlot t).view.set ↔ 128 * t.val ≤ (i 1).val ∧ (i 1).val < 128 * t.val + 128 := by
  have h0 : (i 0).val < 128 := (i 0).isLt
  have e : (gSlot t).view.set = (Rect.unit (s := S128x4096) ![0, 128 * t.val] S128x128.size (inb_slot t)).set := View.set_slice_whole _ _
  rw [e, Rect.mem_set_unit]
  exact ⟨fun h => h 1, fun h a => by fin_cases a; exacts [⟨Nat.zero_le _, (show (i 0).val < 0 + 128 by omega)⟩, h]⟩

theorem mem_xRows (d : Dev nD) (j : Fin 31) (i : S4096x128.Idx) :
    i ∈ (xRows d j).view.set ↔ 128 * ((d.val + 31 - j.val) % 32) ≤ (i 0).val ∧ (i 0).val < 128 * ((d.val + 31 - j.val) % 32) + 128 := by
  have h0 : (i 1).val < 128 := (i 1).isLt
  have e : (xRows d j).view.set = (Rect.unit (s := S4096x128) (k0_off6 d (offW j)) S128x128.size (k0_off6_inb d j)).set := View.set_slice_whole _ _
  rw [e, Rect.mem_set_unit, k0_off6_eq]
  exact ⟨fun h => h 0, fun h a => by fin_cases a; exacts [h, ⟨Nat.zero_le _, (show (i 1).val < 0 + 128 by omega)⟩]⟩

theorem mem_wPart (d : Dev nD) (i : Fin 32) (q : Fin 4) (x : S4096x8192.Idx) :
    x ∈ (wPart d i q).view.set ↔ (128 * ((d.val + 4 * (pOf i).val + q.val) % 32) ≤ (x 0).val ∧
      (x 0).val < 128 * ((d.val + 4 * (pOf i).val + q.val) % 32) + 128) ∧ 2048 * (cOf i).val ≤ (x 1).val ∧ (x 1).val < 2048 * (cOf i).val + 2048 := by
  have e : (wPart d i q).view.set = (Rect.unit (s := S4096x8192) (wOff d (pOf i) (cOf i) q) S128x2048.size (inb_wOff d (pOf i) (cOf i) q)).set :=
    View.set_slice_whole _ _
  rw [e, Rect.mem_set_unit, wOff_eq]
  exact ⟨fun h => ⟨h 0, h 1⟩, fun h a => by fin_cases a; exacts [h.1, h.2]⟩

theorem mem_bPart (s : Fin 10) (q : Fin 4) (x : S10x512x2048.Idx) :
    x ∈ (bPart s q).view.set ↔ (x 0).val = s.val ∧ 128 * q.val ≤ (x 1).val ∧ (x 1).val < 128 * q.val + 128 := by
  have h2 : (x 2).val < 2048 := (x 2).isLt
  have e : (bPart s q).view.set = (Rect.unit (s := S10x512x2048) ![s.val, 128 * q.val, 0] S1x128x2048.size (inb_wrow s q)).set :=
    (View.set_reshape _ _).trans (View.set_slice_whole _ _)
  rw [e, Rect.mem_set_unit]
  constructor
  · intro h
    have h0 : s.val ≤ (x 0).val ∧ (x 0).val < s.val + 1 := h 0
    exact ⟨by omega, h 1⟩
  · intro h a; fin_cases a
    · show s.val ≤ (x 0).val ∧ (x 0).val < s.val + 1; omega
    · exact h.2
    · exact ⟨Nat.zero_le _, (show (x 2).val < 0 + 2048 by omega)⟩

theorem mem_aMe (d : Dev nD) (x : S32x8x128.Idx) : x ∈ (aMe d).view.set ↔ (x 0).val = d.val := by
  have h1 : (x 1).val < 8 := (x 1).isLt
  have h2 : (x 2).val < 128 := (x 2).isLt
  have e : (aMe d).view.set = (Rect.unit (s := S32x8x128) (k0_off10 d) S1x8x128.size (k0_off10_inb d)).set :=
    (View.set_reshape _ _).trans (View.set_slice_whole _ _)
  rw [e, Rect.mem_set_unit, k0_off10_eq]
  constructor
  · intro h
    have h0 : d.val ≤ (x 0).val ∧ (x 0).val < d.val + 1 := h 0
    omega
  · intro h a; fin_cases a
    · show d.val ≤ (x 0).val ∧ (x 0).val < d.val + 1; omega
    · exact ⟨Nat.zero_le _, (show (x 1).val < 0 + 8 by omega)⟩
    · exact ⟨Nat.zero_le _, (show (x 2).val < 0 + 128 by omega)⟩

theorem gSlot_disj (t t' : Fin 32) (h : t ≠ t') : Disjoint (gSlot t).view.set (gSlot t').view.set := by
  refine Finset.disjoint_left.mpr fun i hi hi' => ?_
  have h1 := (mem_gSlot t i).mp hi; have h2 := (mem_gSlot t' i).mp hi'
  exact h (Fin.ext (by omega))
theorem xRows_disj (d : Dev nD) (j j' : Fin 31) (h : j ≠ j') : Disjoint (xRows d j).view.set (xRows d j').view.set := by
  refine Finset.disjoint_left.mpr fun i hi hi' => ?_
  have h1 := (mem_xRows d j i).mp hi; have h2 := (mem_xRows d j' i).mp hi'
  have := dev_lt d; have := j.isLt; have := j'.isLt
  exact h (Fin.ext (by omega))
theorem aMe_disj (d e : Dev nD) (h : d ≠ e) : Disjoint (aMe d).view.set (aMe e).view.set := by
  refine Finset.disjoint_left.mpr fun i hi hi' => ?_
  have h1 := (mem_aMe d i).mp hi; have h2 := (mem_aMe e i).mp hi'
  exact h (Fin.ext (by omega))
theorem bPart_disj (a b : Fin 10 × Fin 4) (h : a ≠ b) : Disjoint (bPart a.1 a.2).view.set (bPart b.1 b.2).view.set := by
  refine Finset.disjoint_left.mpr fun i hi hi' => ?_
  have h1 := (mem_bPart _ _ i).mp hi; have h2 := (mem_bPart _ _ i).mp hi'
  exact h (Prod.ext (Fin.ext (by omega)) (Fin.ext (by omega)))
theorem wPart_disj (d : Dev nD) (a b : Fin 32 × Fin 4) (h : a ≠ b) : Disjoint (wPart d a.1 a.2).view.set (wPart d b.1 b.2).view.set := by
  refine Finset.disjoint_left.mpr fun i hi hi' => ?_
  have h1 := (mem_wPart _ _ _ i).mp hi; have h2 := (mem_wPart _ _ _ i).mp hi'
  have e1 : (pOf a.1).val = a.1.val / 4 := rfl
  have e2 : (pOf b.1).val = b.1.val / 4 := rfl
  have e3 : (cOf a.1).val = a.1.val % 4 := rfl
  have e4 : (cOf b.1).val = b.1.val % 4 := rfl
  have := dev_lt d; have := a.1.isLt; have := b.1.isLt; have := a.2.isLt; have := b.2.isLt
  exact h (Prod.ext (Fin.ext (by omega)) (Fin.ext (by omega)))

/-! ## The contents -/

variable (X : Dev nD → S4096x128.Idx → Elt F .f32) (W : Dev nD → S4096x8192.Idx → Elt F .f32) (A : Dev nD → Elt F .f32)

/-- Device `c`'s gathered rows: slot `t` holds the rows of `x` meant for `c` on the device `t` places on. -/
def XG (c : Dev nD) : S128x4096.Idx → Elt F .f32 := fun i =>
  X (devOf (c.val + (i 1).val / 128)) (ValueIdx.ix2 ⟨128 * c.val + (i 0).val, by
    have := dev_lt c; have : (i 0).val < 128 := (i 0).isLt; omega⟩ ⟨(i 1).val % 128, Nat.mod_lt _ (by decide)⟩)

/-- Panel `i` of `w` on device `c`, as it lies in the ring of panels. -/
def WB (c : Dev nD) (i : Fin 32) : S10x512x2048.Idx → Elt F .f32 := fun x =>
  W c (ValueIdx.ix2 ⟨128 * ((c.val + 4 * (pOf i).val + (x 1).val / 128) % 32) + (x 1).val % 128, by omega⟩
    ⟨2048 * (cOf i).val + (x 2).val, by have := (cOf i).isLt; have : (x 2).val < 2048 := (x 2).isLt; omega⟩)

/-- The table of the devices' maxima. -/
def AT : S32x8x128.Idx → Elt F .f32 := fun x => A (x 0)

omit [FloatOps F] in
theorem write_of_read {sp : Space} {s : Shape} {e : EltTy} (v : View sig .tc sp s e) (G f : v.ty.Contents (Elt F)) (w : s.Idx → Elt F e)
    (h : v.read (Elt F) G = w) : ∀ i ∈ v.set, v.write (Elt F) f w Finset.univ i = G i := by
  intro i hi
  obtain ⟨x, -, rfl⟩ := Finset.mem_map.mp hi
  rw [← h, View.write_emb_of_mem (v := v) f _ (Finset.mem_univ x)]
  simp only [View.read, cast_cast, cast_eq]

/-! ## The pieces read -/

omit [FloatOps F] in
theorem gSlot_read (t : Fin 32) (f : S128x4096.Idx → Elt F .f32) (a b : Fin 128) :
    (gSlot t).view.read (Elt F) f (ValueIdx.ix2 a b) = f (ValueIdx.ix2 a ⟨128 * t.val + b.val, by have := t.isLt; have := b.isLt; omega⟩) := by
  show f ((Rect.unit (s := S128x4096) ![0, 128 * t.val] S128x128.size (inb_slot t)).emb (ValueIdx.ix2 a b)) = _
  refine congrArg f (funext fun ax => Fin.ext ?_)
  rw [ValueKit.rect_emb_unit_val]
  match ax with
  | ⟨0, _⟩ => exact Nat.zero_add _
  | ⟨1, _⟩ => rfl

omit [FloatOps F] in
theorem xRows_read (d : Dev nD) (j : Fin 31) (f : S4096x128.Idx → Elt F .f32) (a b : Fin 128) :
    (xRows d j).view.read (Elt F) f (ValueIdx.ix2 a b) =
      f (ValueIdx.ix2 ⟨128 * ((d.val + 31 - j.val) % 32) + a.val, by have := a.isLt; omega⟩ b) := by
  show f ((Rect.unit (s := S4096x128) (k0_off6 d (offW j)) S128x128.size (k0_off6_inb d j)).emb (ValueIdx.ix2 a b)) = _
  refine congrArg f (funext fun ax => Fin.ext ?_)
  refine (ValueKit.rect_emb_unit_val _ _ _ _ _).trans ((congrArg (fun o : Fin 2 → ℕ => o ax + _) (k0_off6_eq d j)).trans ?_)
  match ax with
  | ⟨0, _⟩ => rfl
  | ⟨1, _⟩ => exact Nat.zero_add _

omit [FloatOps F] in
theorem xOwn_read (d : Dev nD) (f : S4096x128.Idx → Elt F .f32) (a b : Fin 128) :
    xM.view.readAt (Elt F) (Rect.unit (s := S4096x128) (k0_off1 d) S128x128.size (k0_off1_inb d)).toLoadRect f (ValueIdx.ix2 a b) =
      f (ValueIdx.ix2 ⟨128 * d.val + a.val, by have := a.isLt; have := dev_lt d; omega⟩ b) := by
  show f ((Rect.unit (s := S4096x128) (k0_off1 d) S128x128.size (k0_off1_inb d)).emb (ValueIdx.ix2 a b)) = _
  refine congrArg f (funext fun ax => Fin.ext ?_)
  refine (ValueKit.rect_emb_unit_val _ _ _ _ _).trans ((congrArg (fun o : Fin 2 → ℕ => o ax + _) (k0_off1_eq d)).trans ?_)
  match ax with
  | ⟨0, _⟩ => rfl
  | ⟨1, _⟩ => exact Nat.zero_add _

omit [FloatOps F] in
theorem wPart_read (d : Dev nD) (i : Fin 32) (q : Fin 4) (f : S4096x8192.Idx → Elt F .f32) (a : Fin 128) (b : Fin 2048) :
    (wPart d i q).view.read (Elt F) f (ValueIdx.ix2 a b) =
      f (ValueIdx.ix2 ⟨128 * ((d.val + 4 * (pOf i).val + q.val) % 32) + a.val, by have := a.isLt; omega⟩
        ⟨2048 * (cOf i).val + b.val, by have := b.isLt; have := (cOf i).isLt; omega⟩) := by
  show f ((Rect.unit (s := S4096x8192) (wOff d (pOf i) (cOf i) q) S128x2048.size (inb_wOff d (pOf i) (cOf i) q)).emb (ValueIdx.ix2 a b)) = _
  refine congrArg f (funext fun ax => Fin.ext ?_)
  refine (ValueKit.rect_emb_unit_val _ _ _ _ _).trans ((congrArg (fun o : Fin 2 → ℕ => o ax + _) (wOff_eq d (pOf i) (cOf i) q)).trans ?_)
  match ax with
  | ⟨0, _⟩ => rfl
  | ⟨1, _⟩ => rfl

omit [FloatOps F] in
theorem bPart_read (s : Fin 10) (q : Fin 4) (f : S10x512x2048.Idx → Elt F .f32) (a : Fin 128) (b : Fin 2048) :
    (bPart s q).view.read (Elt F) f (ValueIdx.ix2 a b) =
      f (ValueIdx.ix3 s ⟨128 * q.val + a.val, by have := a.isLt; have := q.isLt; omega⟩ b) := by
  refine (congrArg (fun z : S1x128x2048.Idx => f ((Rect.unit (s := S10x512x2048) ![s.val, 128 * q.val, 0] S1x128x2048.size (inb_wrow s q)).emb z))
    (ValueIdx.reshapeEquiv_ix2_1ab (a := 128) (b := 2048) _ a b)).trans ?_
  refine congrArg f (funext fun ax => Fin.ext ?_)
  rw [ValueKit.rect_emb_unit_val]
  match ax with
  | ⟨0, _⟩ => rfl
  | ⟨1, _⟩ => rfl
  | ⟨2, _⟩ => exact Nat.zero_add _

omit [FloatOps F] in
theorem XG_read (d : Dev nD) (j : Fin 31) : (gSlot (slotOf j)).view.read (Elt F) (XG X (bwd d j)) = (xRows d j).view.read (Elt F) (X d) := by
  funext y
  obtain ⟨a, b, rfl⟩ : ∃ (a b : Fin 128), y = ValueIdx.ix2 a b := ⟨_, _, ValueIdx.eq_ix2 y⟩
  rw [gSlot_read, xRows_read]
  have hb := b.isLt
  have hd := dev_lt d
  have hj := j.isLt
  have hv := bwd_val d j
  unfold XG
  have hdev : devOf ((bwd d j).val + (128 * (1 + j.val) + b.val) / 128) = d := Fin.ext (by show (_ % 32 : ℕ) = _; omega)
  have e1 : (⟨128 * (bwd d j).val + a.val, by have := dev_lt (bwd d j); have := a.isLt; omega⟩ : Fin 4096) =
      ⟨128 * ((d.val + 31 - j.val) % 32) + a.val, by have := a.isLt; omega⟩ := Fin.ext (by show 128 * _ + _ = 128 * _ + _; omega)
  have e2 : (⟨(128 * (1 + j.val) + b.val) % 128, Nat.mod_lt _ (by decide)⟩ : Fin 128) = b := Fin.ext (by show (_ % 128 : ℕ) = _; omega)
  show X (devOf ((bwd d j).val + (128 * (1 + j.val) + b.val) / 128)) (ValueIdx.ix2 ⟨128 * (bwd d j).val + a.val, _⟩ ⟨(128 * (1 + j.val) + b.val) % 128, _⟩) = _
  rw [hdev, e1, e2]

omit [FloatOps F] in
theorem WB_read (d : Dev nD) (i : Fin 32) (q : Fin 4) : (bPart (sOf i) q).view.read (Elt F) (WB W d i) = (wPart d i q).view.read (Elt F) (W d) := by
  funext y
  obtain ⟨a, b, rfl⟩ : ∃ (a : Fin 128) (b : Fin 2048), y = ValueIdx.ix2 a b := ⟨_, _, ValueIdx.eq_ix2 y⟩
  rw [bPart_read, wPart_read]
  have ha := a.isLt
  have hq := q.isLt
  unfold WB
  have e1 : (⟨128 * ((d.val + 4 * (pOf i).val + (128 * q.val + a.val) / 128) % 32) + (128 * q.val + a.val) % 128, by omega⟩ : Fin 4096) =
      ⟨128 * ((d.val + 4 * (pOf i).val + q.val) % 32) + a.val, by omega⟩ :=
    Fin.ext (by
      show 128 * ((d.val + 4 * (pOf i).val + (128 * q.val + a.val) / 128) % 32) + (128 * q.val + a.val) % 128 = 128 * ((d.val + 4 * (pOf i).val + q.val) % 32) + a.val
      rw [show (128 * q.val + a.val) / 128 = q.val by omega, show (128 * q.val + a.val) % 128 = a.val by omega])
  show W d (ValueIdx.ix2 ⟨128 * ((d.val + 4 * (pOf i).val + (128 * q.val + a.val) / 128) % 32) + (128 * q.val + a.val) % 128, _⟩ ⟨2048 * (cOf i).val + b.val, _⟩) = _
  rw [e1]

/-- Slot 0 holds this device's own rows. -/
theorem XG_own (d : Dev nD) : (gSlot 0).view.read (Elt F) (XG X d) =
    k0_pay2 (xM.view.readAt (Elt F) (Rect.unit (s := S4096x128) (k0_off1 d) S128x128.size (k0_off1_inb d)).toLoadRect (X d)) := by
  unfold k0_pay2
  simp only [shapeCast_self]
  funext y
  obtain ⟨a, b, rfl⟩ : ∃ (a b : Fin 128), y = ValueIdx.ix2 a b := ⟨_, _, ValueIdx.eq_ix2 y⟩
  rw [gSlot_read]
  refine Eq.trans ?_ (xOwn_read d (X d) a b).symm
  have hb := b.isLt
  have hd := dev_lt d
  have hdev : devOf (d.val + (128 * (0 : Fin 32).val + b.val) / 128) = d := Fin.ext (by show ((d.val + (128 * 0 + b.val) / 128) % 32 : ℕ) = _; omega)
  have e2 : (⟨(128 * (0 : Fin 32).val + b.val) % 128, Nat.mod_lt _ (by decide)⟩ : Fin 128) = b := Fin.ext (by show ((128 * 0 + b.val) % 128 : ℕ) = _; omega)
  show X (devOf (d.val + (128 * (0 : Fin 32).val + b.val) / 128)) (ValueIdx.ix2 ⟨128 * d.val + a.val, _⟩ ⟨(128 * (0 : Fin 32).val + b.val) % 128, _⟩) = _
  rw [hdev, e2]

/-- The rectangles that the vector operations read are those of four slots and of four parts. -/
def gGrp (p : Fin 8) (q : Fin 4) : Fin 32 := ⟨4 * p.val + q.val, by have := p.isLt; have := q.isLt; omega⟩

theorem gRect_set (p : Fin 8) : (gM.access (gRect p)).set = (gRect p).set := View.set_slice_whole _ _
theorem bRect_set (s : Fin 10) : (bM.access (bRect s)).set = (bRect s).set := View.set_slice_whole _ _

theorem gRect_sub' (p : Fin 8) : (gRect p).set ⊆ Finset.univ.biUnion fun q : Fin 4 => (gSlot (gGrp p q)).view.set := by
  intro i hi
  have h : 512 * p.val ≤ (i 1).val ∧ (i 1).val < 512 * p.val + 512 := Rect.mem_set_unit.mp hi 1
  refine Finset.mem_biUnion.mpr ⟨⟨((i 1).val - 512 * p.val) / 128, by omega⟩, Finset.mem_univ _, (mem_gSlot _ i).mpr ?_⟩
  show 128 * (4 * p.val + ((i 1).val - 512 * p.val) / 128) ≤ (i 1).val ∧ (i 1).val < 128 * (4 * p.val + ((i 1).val - 512 * p.val) / 128) + 128
  omega

theorem bRect_sub' (s : Fin 10) : (bRect s).set ⊆ Finset.univ.biUnion fun q : Fin 4 => (bPart s q).view.set := by
  intro x hx
  have h0 : s.val ≤ (x 0).val ∧ (x 0).val < s.val + 1 := Rect.mem_set_unit.mp hx 0
  have h1 : (x 1).val < 512 := (x 1).isLt
  refine Finset.mem_biUnion.mpr ⟨⟨(x 1).val / 128, by omega⟩, Finset.mem_univ _, (mem_bPart _ _ x).mpr ?_⟩
  show (x 0).val = s.val ∧ 128 * ((x 1).val / 128) ≤ (x 1).val ∧ (x 1).val < 128 * ((x 1).val / 128) + 128
  omega

theorem gRect_sub (p : Fin 8) : (gM.access (gRect p)).set ⊆ Finset.univ.biUnion fun q : Fin 4 => (gSlot (gGrp p q)).view.set :=
  (gRect_set p).le.trans (gRect_sub' p)
theorem bRect_sub (s : Fin 10) : (bM.access (bRect s)).set ⊆ Finset.univ.biUnion fun q : Fin 4 => (bPart s q).view.set :=
  (bRect_set s).le.trans (bRect_sub' s)

end Cert.KernelIdeal.Own

end
-- ==== Proof.Proto.lean ====
/-
  The protocol of the 32 devices, as rounds of duties on the kernel's semaphores.

  * The barrier of device `c` has one round of 31 duties of one unit. Duty `j` is paid by `bwd c j` and hands over that
    device's slot `slotOf j` of the gathered rows and its row `c` of the table, both with any contents.
  * The receive semaphore `slotOf j` of the first exchange has one duty, paid by the copy that `fwd c j` starts: it hands
    over slot `slotOf j` with the rows of `x` of `fwd c j` meant for `c`. The send semaphore hands the rows read back.
  * The receive semaphore `t` of the second exchange has one duty, paid by the copy that device `t` starts: it hands over
    row `t` of the table with the maximum of `t`. The send semaphore `t` hands back the share of row `c` that was lent.
  * The semaphore of part `q` of panel `s` has a round for each step `s + 10 r`: it hands over the part with the rows of
    `w` of that step, and these rows of `w` back.

  A device waits on the barrier owing copies of both exchanges, on the first exchange owing copies of the second, and on
  everything else owing any of these: the levels are 0 for what is local, then barrier, first and second exchange.
-/
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.Ring.FamCut

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's rounds and, beside it, the kernel's own with duties numbered below 31. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The kinds of semaphore of one device: the barrier, one per part of a panel, the send and receive semaphores of the first
    exchange (by the other device's number), those of the second (by the device). -/
inductive Kd : Type
  | bar
  | w (s : Fin 10) (q : Fin 4)
  | xs (j : Fin 31)
  | xr (j : Fin 31)
  | ts (t : Fin 32)
  | tr (t : Fin 32)
  deriving DecidableEq

/-- The kinds as a sum of finite types. -/
abbrev KS : Type := Unit ⊕ (Fin 10 × Fin 4) ⊕ Fin 31 ⊕ Fin 31 ⊕ Fin 32 ⊕ Fin 32

def kdEquiv : KS ≃ Kd where
  toFun
    | .inl _ => .bar
    | .inr (.inl p) => .w p.1 p.2
    | .inr (.inr (.inl j)) => .xs j
    | .inr (.inr (.inr (.inl j))) => .xr j
    | .inr (.inr (.inr (.inr (.inl t)))) => .ts t
    | .inr (.inr (.inr (.inr (.inr t)))) => .tr t
  invFun
    | .bar => .inl ()
    | .w s q => .inr (.inl (s, q))
    | .xs j => .inr (.inr (.inl j))
    | .xr j => .inr (.inr (.inr (.inl j)))
    | .ts t => .inr (.inr (.inr (.inr (.inl t))))
    | .tr t => .inr (.inr (.inr (.inr (.inr t))))
  left_inv := by rintro (_ | _ | _ | _ | _ | _) <;> rfl
  right_inv := by rintro (_ | _ | _ | _ | _ | _) <;> rfl

instance : Fintype Kd := Fintype.ofEquiv KS kdEquiv

def ksem : Kd → SemLoc sig
  | .bar => .reg barS
  | .w s q => .dma (wSem s q)
  | .xs j => .dma (semAt cc0_scratch4 (slotOf j))
  | .xr j => .dma (semAt cc0_scratch5 (slotOf j))
  | .ts t => .dma (semAt cc0_scratch6 t)
  | .tr t => .dma (semAt cc0_scratch7 t)

/-- The kind of a semaphore, read off its number. -/
def kindOf : SemLoc sig → Option Kd
  | .reg _ => some .bar
  | .dma n =>
    if n.val < 2 then none
    else if n.val < 42 then some (.w (Fin.ofNat 10 ((n.val - 2) / 4)) (Fin.ofNat 4 ((n.val - 2) % 4)))
    else if n.val < 43 then none
    else if n.val < 74 then some (.xs (Fin.ofNat 31 (n.val - 43)))
    else if n.val < 75 then none
    else if n.val < 106 then some (.xr (Fin.ofNat 31 (n.val - 75)))
    else if n.val < 138 then some (.ts (Fin.ofNat 32 (n.val - 106)))
    else some (.tr (Fin.ofNat 32 (n.val - 138)))

theorem kindOf_w : ∀ s q, kindOf (ksem (.w s q)) = some (.w s q) := by decide +kernel
theorem kindOf_xs : ∀ j, kindOf (ksem (.xs j)) = some (.xs j) := by decide +kernel
theorem kindOf_xr : ∀ j, kindOf (ksem (.xr j)) = some (.xr j) := by decide +kernel
theorem kindOf_as : ∀ t, kindOf (ksem (.ts t)) = some (.ts t) := by decide +kernel
theorem kindOf_ar : ∀ t, kindOf (ksem (.tr t)) = some (.tr t) := by decide +kernel

theorem kindOf_ksem : ∀ k, kindOf (ksem k) = some k
  | .bar => rfl
  | .w s q => kindOf_w s q
  | .xs j => kindOf_xs j
  | .xr j => kindOf_xr j
  | .ts t => kindOf_as t
  | .tr t => kindOf_ar t

theorem ksem_inj : Function.Injective ksem := fun a b h =>
  Option.some.inj (by rw [← kindOf_ksem a, ← kindOf_ksem b, h])

/-- The semaphore of kind `k` on device `c`. -/
abbrev kcell (c : Dev nD) (k : Kd) : GSem nD τ sig := ((c : Thread nD τ), ksem k)

theorem kcell_inj {c c' : Dev nD} {k k' : Kd} (h : kcell c k = kcell c' k') : c = c' ∧ k = k' :=
  ⟨congrArg (fun g : GSem nD τ sig => g.1.1) h, ksem_inj (congrArg (fun g : GSem nD τ sig => g.2) h)⟩

theorem semMe_as : ∀ s : Dev nD, semMe cc0_scratch6 s = semAt cc0_scratch6 s := by decide +kernel
theorem semMe_ar : ∀ s : Dev nD, semMe cc0_scratch7 s = semAt cc0_scratch7 s := by decide +kernel
theorem semFwd_as : ∀ (s : Dev nD) (j : Fin 31), semFwd cc0_scratch6 s j = semAt cc0_scratch6 (fwd s j) := by decide +kernel
theorem semFwd_ar : ∀ (s : Dev nD) (j : Fin 31), semFwd cc0_scratch7 s j = semAt cc0_scratch7 (fwd s j) := by decide +kernel

/-! ## Amounts -/

abbrev Nw : ℕ := (bPart 0 0).view.dmaCredit
abbrev Nx : ℕ := (gSlot 0).view.dmaCredit
abbrev Na : ℕ := (aMe 0).view.dmaCredit

theorem Nw_eq (s : Fin 10) (q : Fin 4) : (bPart s q).view.dmaCredit = Nw := rfl
theorem Nx_eq (t : Fin 32) : (gSlot t).view.dmaCredit = Nx := rfl
theorem Nx_eq' (d : Dev nD) (j : Fin 31) : (xRows d j).view.dmaCredit = Nx := rfl
theorem Na_eq (d : Dev nD) : (aMe d).view.dmaCredit = Na := rfl
theorem Na_eq' (d : Dev nD) (j : Fin 31) : (aFwd d j).view.dmaCredit = Na := rfl

theorem Nw_pos : 0 < Nw := View.dmaCredit_pos _ (by decide)
theorem Nx_pos : 0 < Nx := View.dmaCredit_pos _ (by decide)
theorem Na_pos : 0 < Na := View.dmaCredit_pos _ (by decide)

/-! ## The pieces held -/

/-- Slot `t` of the gathered rows, part `q` of panel `s`, the rows of `x` for the other device `j`, the rows of `w` of part
    `q` of step `i`, row `e` of the table: each on device `c`, with contents `f`. -/
def gPts (c : Dev nD) (t : Fin 32) (f : S128x4096.Idx → Elt F .f32) : sProp 𝕄 :=
  (gSlot t).view.loc (c : Thread nD τ) ↦[(gSlot t).view.set]{fullShare} f
def bPts (c : Dev nD) (s : Fin 10) (q : Fin 4) (f : S10x512x2048.Idx → Elt F .f32) : sProp 𝕄 :=
  (bPart s q).view.loc (c : Thread nD τ) ↦[(bPart s q).view.set]{fullShare} f
def xPts (c : Dev nD) (j : Fin 31) (f : S4096x128.Idx → Elt F .f32) : sProp 𝕄 :=
  (xRows c j).view.loc (c : Thread nD τ) ↦[(xRows c j).view.set]{fullShare} f
def wPts (c : Dev nD) (i : Fin 32) (q : Fin 4) (f : S4096x8192.Idx → Elt F .f32) : sProp 𝕄 :=
  (wPart c i q).view.loc (c : Thread nD τ) ↦[(wPart c i q).view.set]{fullShare} f
def aPts (c : Dev nD) (π : PosShare TreeShare) (e : Dev nD) (f : S32x8x128.Idx → Elt F .f32) : sProp 𝕄 :=
  (aMe e).view.loc (c : Thread nD τ) ↦[(aMe e).view.set]{π} f

section
omit [FloatOps F]
instance gPts_storable (c : Dev nD) (t f) : BI.Storable (upEmb : UEmb _ 𝕄) (gPts (F := F) c t f) := by unfold gPts; infer_instance
instance bPts_storable (c : Dev nD) (s q f) : BI.Storable (upEmb : UEmb _ 𝕄) (bPts (F := F) c s q f) := by unfold bPts; infer_instance
instance xPts_storable (c : Dev nD) (j f) : BI.Storable (upEmb : UEmb _ 𝕄) (xPts (F := F) c j f) := by unfold xPts; infer_instance
instance wPts_storable (c : Dev nD) (i q f) : BI.Storable (upEmb : UEmb _ 𝕄) (wPts (F := F) c i q f) := by unfold wPts; infer_instance
instance aPts_storable (c : Dev nD) (π e f) : BI.Storable (upEmb : UEmb _ 𝕄) (aPts (F := F) c π e f) := by unfold aPts; infer_instance
end

/-! ## The schedule -/

variable (X : Dev nD → S4096x128.Idx → Elt F .f32) (W : Dev nD → S4096x8192.Idx → Elt F .f32) (A : Dev nD → Elt F .f32)

/-- The number of device `t` among the others of `c`, counted forward. -/
def jOf (c t : Dev nD) : Fin 31 := ⟨(t.val + 31 - c.val) % 32 % 31, Nat.mod_lt _ (by decide)⟩

theorem jOf_fwd (c : Dev nD) (j : Fin 31) : jOf c (fwd c j) = j := by
  refine Fin.ext ?_
  show ((fwd c j).val + 31 - c.val) % 32 % 31 = j.val
  rw [fwd_val]; have := dev_lt c; have := j.isLt; omega

/-- The share of this device's row of the table that is lent to the copy to the other device `j`. -/
def lent (j : Fin 31) : PosShare TreeShare := Transfers.shareTok fullShare 31 j

def kDuties (c : Dev nD) (k : Kd) (r : ℕ) : Finset (Fin 31) :=
  match k with
  | .bar => if r = 0 then Finset.univ else ∅
  | .w s _ => if s.val + 10 * r < 32 then {0} else ∅
  | .xs _ => if r = 0 then {0} else ∅
  | .xr _ => if r = 0 then {0} else ∅
  | .ts t => if r = 0 ∧ t ≠ c then {0} else ∅
  | .tr t => if r = 0 ∧ t ≠ c then {0} else ∅

def kAmt : Kd → ℕ
  | .bar => 1
  | .w _ _ => Nw
  | .xs _ => Nx
  | .xr _ => Nx
  | .ts _ => Na
  | .tr _ => Na

def kPay (c : Dev nD) (k : Kd) (r : ℕ) (j : Fin 31) : sProp 𝕄 :=
  match k with
  | .bar => iprop((∃ f, gPts (bwd c j) (slotOf j) f) ∗ ∃ f, aPts (bwd c j) fullShare c f)
  | .w s q => if h : s.val + 10 * r < 32 then iprop(bPts c s q (WB W c ⟨s.val + 10 * r, h⟩) ∗ wPts c ⟨s.val + 10 * r, h⟩ q (W c)) else iprop(emp)
  | .xs j => xPts c j (X c)
  | .xr j => gPts c (slotOf j) (XG X c)
  | .ts t => aPts c (lent (jOf c t)) c (AT A)
  | .tr t => aPts c fullShare t (AT A)

def Rd : Rounds.Schedule (GSem nD τ sig) (Fin 31) 𝕄 where
  duties g r := match kindOf g.2 with
    | some k => kDuties g.1.1 k r
    | none => ∅
  unitless _ := False
  amount g _ _ := match kindOf g.2 with
    | some k => kAmt k
    | none => 1
  payload g r j := match kindOf g.2 with
    | some k => kPay X W A g.1.1 k r j
    | none => iprop(emp)
  amount_pos g _ _ _ := by
    cases kindOf g.2 with
    | none => exact Nat.one_pos
    | some k => cases k <;> first | exact Nat.one_pos | exact Nw_pos | exact Nx_pos | exact Na_pos

omit [FloatOps F] in
theorem kPay_storable (c : Dev nD) (k : Kd) (r : ℕ) (j : Fin 31) : BI.Storable (upEmb : UEmb _ 𝕄) (kPay X W A c k r j) := by
  cases k with
  | w s q =>
    show BI.Storable upEmb (if h : s.val + 10 * r < 32 then iprop(bPts c s q (WB W c ⟨s.val + 10 * r, h⟩) ∗ wPts c ⟨s.val + 10 * r, h⟩ q (W c)) else iprop(emp))
    split <;> infer_instance
  | bar => unfold kPay; infer_instance
  | xs j => unfold kPay; infer_instance
  | xr j => unfold kPay; infer_instance
  | ts t => unfold kPay; infer_instance
  | tr t => unfold kPay; infer_instance

instance Rd_storable (g : GSem nD τ sig) (r : ℕ) (j : Fin 31) : BI.Storable (upEmb : UEmb _ 𝕄) ((Rd (F := F) X W A).payload g r j) := by
  show BI.Storable upEmb (match kindOf g.2 with | some k => kPay X W A g.1.1 k r j | none => iprop(emp))
  cases kindOf g.2 with
  | none => infer_instance
  | some k => exact kPay_storable X W A g.1.1 k r j

section Tables
omit [FloatOps F]

theorem duties_k (c : Dev nD) (k : Kd) (r : ℕ) : (Rd X W A).duties (kcell c k) r = kDuties c k r := by
  show (match kindOf (ksem k) with | some k => kDuties c k r | none => ∅) = _
  rw [kindOf_ksem]
theorem amount_k (c : Dev nD) (k : Kd) (r : ℕ) (j : Fin 31) : (Rd X W A).amount (kcell c k) r j = kAmt k := by
  show (match kindOf (ksem k) with | some k => kAmt k | none => 1) = _
  rw [kindOf_ksem]
theorem payload_k (c : Dev nD) (k : Kd) (r : ℕ) (j : Fin 31) : (Rd X W A).payload (kcell c k) r j = kPay X W A c k r j := by
  show (match kindOf (ksem k) with | some k => kPay X W A c k r j | none => iprop(emp)) = _
  rw [kindOf_ksem]

/-- A round of one duty: what it expects and what it hands over. -/
theorem expect_one (c : Dev nD) (k : Kd) (r : ℕ) (h : kDuties c k r = {0}) : (Rd X W A).expect (kcell c k) r = kAmt k := by
  unfold Schedule.expect Schedule.amountOf
  rw [duties_k, h, Finset.sum_singleton, amount_k]
theorem rest_one (c : Dev nD) (k : Kd) (r : ℕ) (h : kDuties c k r = {0}) :
    bigSep ((Rd X W A).duties (kcell c k) r \ ∅) (fun j => (Rd X W A).payload (kcell c k) r j) = kPay X W A c k r 0 := by
  rw [Finset.sdiff_empty, duties_k, h, bigSep_singleton, payload_k]
theorem expect_bar (c : Dev nD) : (Rd X W A).expect (kcell c .bar) 0 = 31 := by
  unfold Schedule.expect Schedule.amountOf
  rw [duties_k, Finset.sum_congr rfl fun j _ => amount_k X W A c .bar 0 j]
  show (∑ _j ∈ (Finset.univ : Finset (Fin 31)), 1) = 31
  rw [Finset.sum_const, Finset.card_univ, Fintype.card_fin, smul_eq_mul, Nat.mul_one]
theorem rest_bar (c : Dev nD) :
    bigSep ((Rd X W A).duties (kcell c .bar) 0 \ ∅) (fun j => (Rd X W A).payload (kcell c .bar) 0 j)
      = bigSep Finset.univ (fun j => kPay X W A c .bar 0 j) := by
  rw [Finset.sdiff_empty, duties_k]
  exact bigSep_congr fun j _ => payload_k X W A c .bar 0 j

/-- The last round of a semaphore. -/
def kEnd (c : Dev nD) : Kd → ℕ
  | .bar => 1
  | .w s _ => if s.val < 2 then 4 else 3
  | .xs _ => 1
  | .xr _ => 1
  | .ts t => if t = c then 0 else 1
  | .tr t => if t = c then 0 else 1

theorem kDuties_end (c : Dev nD) (k : Kd) (r : ℕ) (h : kEnd c k ≤ r) : kDuties c k r = ∅ := by
  cases k with
  | bar => exact if_neg (by have : 1 ≤ r := h; omega)
  | w s q =>
    refine if_neg ?_
    have h' : (if s.val < 2 then 4 else 3) ≤ r := h
    split at h' <;> omega
  | xs j => exact if_neg (by have : 1 ≤ r := h; omega)
  | xr j => exact if_neg (by have : 1 ≤ r := h; omega)
  | ts t =>
    refine if_neg ?_
    have h' : (if t = c then 0 else 1) ≤ r := h
    rintro ⟨h0, ht⟩; rw [if_neg ht] at h'; omega
  | tr t =>
    refine if_neg ?_
    have h' : (if t = c then 0 else 1) ≤ r := h
    rintro ⟨h0, ht⟩; rw [if_neg ht] at h'; omega

theorem duties_end (c : Dev nD) (k : Kd) (r : ℕ) (h : kEnd c k ≤ r) : (Rd X W A).duties (kcell c k) r = ∅ := by
  rw [duties_k, kDuties_end c k r h]

end Tables

/-! ## Levels and debts -/

def L (g : GSem nD τ sig) : Finset Unit := if g.1.2 = .tc then {()} else ∅

def kLev : Option Kd → ℕ
  | some .bar => 1
  | some (.xr _) => 2
  | some (.tr _) => 3
  | _ => 0
def lv (g : GSem nD τ sig) (_ : Unit) : ℕ := kLev (kindOf g.2)

theorem lv_k (c : Dev nD) (k : Kd) : lv (kcell c k) () = kLev (some k) := by unfold lv; rw [kindOf_ksem]
theorem L_of_ne (g : GSem nD τ sig) (h : g.1.2 ≠ .tc) : L g = ∅ := if_neg h
theorem L_tc (c : Dev nD) (sm : SemLoc sig) : L ((c : Thread nD τ), sm) = {()} := if_pos rfl

/-- Every debt in `O` is on a TensorCore's semaphore of level above `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tally {n : ℕ} {g : GSem nD τ sig} {k : ℕ} (hg : g.1.2 = .tc) (hl : n < lv g ()) : Above n (tallyAt g () k) := fun g' u hp => by
  rw [tallyAt_apply] at hp
  by_cases h : g' = g ∧ u = ()
  · rw [h.1]; exact ⟨hg, hl⟩
  · rw [if_neg h] at hp; exact absurd hp (Nat.lt_irrefl 0)
theorem Above.sum {n : ℕ} {ι : Type} (s : Finset ι) (f : ι → CellTallies nD τ sig Unit) (h : ∀ i ∈ s, Above n (f i)) : Above n (∑ i ∈ s, f i) := by
  classical
  induction s using Finset.induction_on with
  | empty => exact Above.zero n
  | insert a s ha ih =>
    rw [Finset.sum_insert ha]
    exact (h a (Finset.mem_insert_self _ _)).add (ih fun i hi => h i (Finset.mem_insert_of_mem hi))
theorem Above.mono {n n' : ℕ} {O : CellTallies nD τ sig Unit} (h : Above n O) (hn : n' ≤ n) : Above n' O :=
  fun g u hp => ⟨(h g u hp).1, lt_of_le_of_lt hn (h g u hp).2⟩

omit [FloatOps F] in
theorem mayWait (c : Dev nD) (sm : SemLoc sig) {n : ℕ} (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- What device `c` owes: the barrier units, the first exchange, the second exchange; the ones of number `t` and on. -/
def owedBar (c : Dev nD) (t : ℕ) : CellTallies nD τ sig Unit :=
  ∑ j ∈ Finset.univ.filter (fun j : Fin 31 => t ≤ j.val), tallyAt (kcell (fwd c j) .bar) () 1
def owedX (c : Dev nD) (t : ℕ) : CellTallies nD τ sig Unit :=
  ∑ j ∈ Finset.univ.filter (fun j : Fin 31 => t ≤ j.val), tallyAt (kcell (bwd c j) (.xr j)) () Nx
def owedA (c : Dev nD) (t : ℕ) : CellTallies nD τ sig Unit :=
  ∑ j ∈ Finset.univ.filter (fun j : Fin 31 => t ≤ j.val), tallyAt (kcell (fwd c j) (.tr c)) () Na

theorem tail_succ (f : Fin 31 → CellTallies nD τ sig Unit) (i : Fin 31) :
    ∑ j ∈ Finset.univ.filter (fun j : Fin 31 => i.val ≤ j.val), f j
      = (∑ j ∈ Finset.univ.filter (fun j : Fin 31 => i.val + 1 ≤ j.val), f j) + f i := by
  have e : Finset.univ.filter (fun j : Fin 31 => i.val ≤ j.val) = insert i (Finset.univ.filter (fun j : Fin 31 => i.val + 1 ≤ j.val)) := by
    ext j; simp only [Finset.mem_filter, Finset.mem_univ, true_and, Finset.mem_insert, Fin.ext_iff]; omega
  rw [e, Finset.sum_insert (by simp only [Finset.mem_filter, Finset.mem_univ, true_and]; omega), add_comm]

theorem tail_end (f : Fin 31 → CellTallies nD τ sig Unit) : ∑ j ∈ Finset.univ.filter (fun j : Fin 31 => 31 ≤ j.val), f j = 0 := by
  rw [Finset.filter_false_of_mem (fun j _ => by have := j.isLt; omega), Finset.sum_empty]

theorem owedBar_succ (c : Dev nD) (i : Fin 31) : owedBar c i.val = owedBar c (i.val + 1) + tallyAt (kcell (fwd c i) .bar) () 1 := tail_succ _ i
theorem owedX_succ (c : Dev nD) (i : Fin 31) : owedX c i.val = owedX c (i.val + 1) + tallyAt (kcell (bwd c i) (.xr i)) () Nx := tail_succ _ i
theorem owedA_succ (c : Dev nD) (i : Fin 31) : owedA c i.val = owedA c (i.val + 1) + tallyAt (kcell (fwd c i) (.tr c)) () Na := tail_succ _ i
theorem owedBar_end (c : Dev nD) : owedBar c 31 = 0 := tail_end _
theorem owedX_end (c : Dev nD) : owedX c 31 = 0 := tail_end _
theorem owedA_end (c : Dev nD) : owedA c 31 = 0 := tail_end _

theorem owedBar_above (c : Dev nD) (t : ℕ) : Above 0 (owedBar c t) :=
  Above.sum _ _ fun j _ => Above.tally rfl (by rw [lv_k]; exact Nat.one_pos)
theorem owedX_above (c : Dev nD) (t : ℕ) : Above 1 (owedX c t) :=
  Above.sum _ _ fun j _ => Above.tally rfl (by rw [lv_k]; exact Nat.lt_succ_self 1)
theorem owedA_above (c : Dev nD) (t : ℕ) : Above 2 (owedA c t) :=
  Above.sum _ _ fun j _ => Above.tally rfl (by rw [lv_k]; exact Nat.lt_succ_self 2)

/-- What device `c` owes at the start. -/
def O₀ (c : Dev nD) : CellTallies nD τ sig Unit := owedA c 0 + owedX c 0 + owedBar c 0

theorem O₀_above (c : Dev nD) : Above 0 (O₀ c) :=
  (((owedA_above c 0).mono (Nat.zero_le _)).add ((owedX_above c 0).mono (Nat.zero_le _))).add (owedBar_above c 0)

/-! ## The standing facts -/

/-- The invariants of every semaphore of every device, that each has reached round 0, and the levels. -/
def Rec (K : Dev nD × Kd → ℕ) : sProp 𝕄 :=
  iprop((bigSep Finset.univ fun p : Dev nD × Kd => cellInv ER (Rd X W A) (K p) (kcell p.1 p.2))
    ∗ (bigSep Finset.univ fun p : Dev nD × Kd => reached ER (kcell p.1 p.2) 0) ∗ levAts L lv)

instance Rec_persistent (K : Dev nD × Kd → ℕ) : BI.Persistent (Rec X W A K) := by unfold Rec; infer_instance

section
variable (K : Dev nD × Kd → ℕ)

theorem rec_inv (c : Dev nD) (k : Kd) : Rec X W A K ⊢ cellInv ER (Rd X W A) (K (c, k)) (kcell c k) := by
  have h : (bigSep Finset.univ fun p : Dev nD × Kd => (cellInv ER (Rd X W A) (K p) (kcell p.1 p.2) : sProp 𝕄)) ⊢ cellInv ER (Rd X W A) (K (c, k)) (kcell c k) :=
    bigSep_elim (Finset.mem_univ ((c, k) : Dev nD × Kd))
  unfold Rec; iintro ⟨H, -, -⟩; iapply h; iexact H
theorem rec_reached (c : Dev nD) (k : Kd) : Rec X W A K ⊢ (reached ER (kcell c k) 0 : sProp 𝕄) := by
  have h : (bigSep Finset.univ fun p : Dev nD × Kd => (reached ER (kcell p.1 p.2) 0 : sProp 𝕄)) ⊢ reached ER (kcell c k) 0 :=
    bigSep_elim (Finset.mem_univ ((c, k) : Dev nD × Kd))
  unfold Rec; iintro ⟨-, H, -⟩; iapply h; iexact H

end

end Cert.KernelIdeal.Own

end
-- ==== Proof.Steps.lean ====
/-
  One rule per operation of the protocol, and the rule for a family of operations repeated by `each`.
-/
module

public import proofs.«01_k».proof.Proof.Proto

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program on device `c`. -/
abbrev WP (c : Dev nD) (p : PG F) (Q : PUnit → sProp 𝕄) : sProp 𝕄 :=
  wp frame (wpE (defs₀ (F := F)) 𝒱₀ (c : Thread nD τ) none) Set.univ p Q

/-- What device `c` owes, whatever waits it has done. -/
def Ow (c : Dev nD) (O : CellTallies nD τ sig Unit) : sProp 𝕄 := iprop(∃ Ws, owes (c : Thread nD τ) O Ws)

/-! ## Families of operations -/

section Loops

theorem each_nat (c : Dev nD) (Q : PUnit → sProp 𝕄) (R : sProp 𝕄) [BI.Persistent R] {n : ℕ} (f : Fin n → PG F → PG F) (J : ℕ → sProp 𝕄)
    (h : ∀ (i : Fin n) (k : PG F), iprop(R ∗ J i.val) ⊢ iprop((J (i.val + 1) -∗ WP c k Q) -∗ WP c (f i k) Q)) (k : PG F) :
    iprop(R ∗ J 0) ⊢ iprop((J n -∗ WP c k Q) -∗ WP c (each (List.finRange n) f k) Q) := by
  have key : ∀ (a t : ℕ), t + a = n →
      iprop(R ∗ J t) ⊢ iprop((J n -∗ WP c k Q) -∗ WP c (each ((List.finRange n).drop t) f k) Q) := by
    intro a
    induction a with
    | zero =>
      intro t ht
      have e : t = n := by omega
      subst e
      rw [List.drop_eq_nil_of_le (by rw [List.length_finRange])]
      iintro ⟨-, HJ⟩ HK
      iapply HK; iexact HJ
    | succ a ih =>
      intro t ht
      have hlt : t < n := by omega
      have e : (List.finRange n).drop t = ⟨t, hlt⟩ :: (List.finRange n).drop (t + 1) := by
        rw [List.drop_eq_getElem_cons (by rw [List.length_finRange]; exact hlt)]
        congr 1
        exact List.getElem_finRange _
      rw [e]
      show iprop(R ∗ J t) ⊢ iprop((J n -∗ WP c k Q) -∗ WP c (f ⟨t, hlt⟩ (each ((List.finRange n).drop (t + 1)) f k)) Q)
      iintro ⟨#HR, HJ⟩ HK
      iapply (h ⟨t, hlt⟩ (each ((List.finRange n).drop (t + 1)) f k)) $$ [HJ]
      · isplitr; · iexact HR
        iexact HJ
      iintro HJ
      iapply (ih (t + 1) (by omega)) $$ [HJ]
      · isplitr; · iexact HR
        iexact HJ
      iexact HK
  have h0 := key n 0 (by omega)
  rwa [List.drop_zero] at h0

/-- The family before step `t`: what the steps done have left, and what the others still need. -/
def fam {n : ℕ} (P P' : Fin n → sProp 𝕄) (t : ℕ) : sProp 𝕄 := bigSep Finset.univ fun i : Fin n => if i.val < t then P' i else P i

omit [FloatOps F] in
theorem fam_zero {n : ℕ} (P P' : Fin n → sProp 𝕄) : fam P P' 0 = bigSep Finset.univ P :=
  bigSep_congr fun i _ => if_neg (Nat.not_lt_zero _)
omit [FloatOps F] in
theorem fam_end {n : ℕ} (P P' : Fin n → sProp 𝕄) : fam P P' n = bigSep Finset.univ P' :=
  bigSep_congr fun i _ => if_pos i.isLt
omit [FloatOps F] in
theorem fam_out {n : ℕ} (P P' : Fin n → sProp 𝕄) (i : Fin n) :
    fam P P' i.val = iprop(P i ∗ bigSep (Finset.univ.erase i) fun b : Fin n => if b.val < i.val then P' b else P b) := by
  unfold fam; rw [bigSep_univ_split i, if_neg (Nat.lt_irrefl _)]; rfl
omit [FloatOps F] in
theorem fam_in {n : ℕ} (P P' : Fin n → sProp 𝕄) (i : Fin n) :
    fam P P' (i.val + 1) = iprop(P' i ∗ bigSep (Finset.univ.erase i) fun b : Fin n => if b.val < i.val then P' b else P b) := by
  unfold fam; rw [bigSep_univ_split i, if_pos (Nat.lt_succ_self _)]
  show iprop(P' i ∗ _) = _
  congr 1
  refine bigSep_congr fun b hb => ?_
  have hne : b ≠ i := (Finset.mem_erase.mp hb).1
  have hv : b.val ≠ i.val := fun h => hne (Fin.ext h)
  by_cases hlt : b.val < i.val
  · rw [if_pos hlt, if_pos (by omega)]
  · rw [if_neg hlt, if_neg (by omega)]

theorem each_fam (c : Dev nD) (Q : PUnit → sProp 𝕄) (R : sProp 𝕄) [BI.Persistent R] {n : ℕ} (f : Fin n → PG F → PG F) (P P' : Fin n → sProp 𝕄) (I : ℕ → sProp 𝕄)
    (h : ∀ (i : Fin n) (k : PG F), iprop(R ∗ P i ∗ I i.val) ⊢ iprop((P' i ∗ I (i.val + 1) -∗ WP c k Q) -∗ WP c (f i k) Q)) (k : PG F) :
    iprop(R ∗ bigSep Finset.univ P ∗ I 0) ⊢ iprop((bigSep Finset.univ P' ∗ I n -∗ WP c k Q) -∗ WP c (each (List.finRange n) f k) Q) := by
  rw [← fam_zero P P', ← fam_end P P']
  refine each_nat c Q R f (fun t => iprop(fam P P' t ∗ I t)) (fun i k => ?_) k
  rw [fam_out, fam_in]
  iintro ⟨#HR, ⟨HP, Hrest⟩, HI⟩ HK
  iapply (h i k) $$ [HP HI]
  · isplitr; · iexact HR
    isplitl [HP]; · iexact HP
    iexact HI
  iintro ⟨HP', HI⟩
  iapply HK
  isplitr [HI]
  · isplitl [HP']; · iexact HP'
    iexact Hrest
  iexact HI

end Loops

/-! ## The operations -/

variable (X : Dev nD → S4096x128.Idx → Elt F .f32) (W : Dev nD → S4096x8192.Idx → Elt F .f32) (A : Dev nD → Elt F .f32)
variable (K : Dev nD × Kd → ℕ) (c : Dev nD) {O : CellTallies nD τ sig Unit}

theorem rec_wait (k : Kd) (hO : Above (kLev (some k)) O) : Rec X W A K ⊢ MayWait (c : Thread nD τ) (ksem k) () O := by
  unfold Rec; iintro ⟨-, -, H⟩; iapply (mayWait c (ksem k) (le_of_eq (lv_k c k)) hO); iexact H

/-- A wait on a semaphore whose round has one duty. -/
theorem wait_one {Q : PUnit → sProp 𝕄} (k : Kd) (r : ℕ) (h : kDuties c k r = {0}) (hO : Above (kLev (some k)) O)
    {w : TpuEff nD τ sig (Elt F) Λ₀ .tc PUnit}
    (hw : ∀ Kc : PUnit → sProp 𝕄, wpE (defs₀ (F := F)) 𝒱₀ (c : Thread nD τ) none Set.univ w Kc = waitSpec (c : Thread nD τ) Set.univ (ksem k) (kAmt k) Kc)
    (kont : PUnit → PG F) :
    iprop(Rec X W A K ∗ cred (tallyAt (kcell c k) () (kAmt k)) ∗ Ow c O ∗ atPos ER (kcell c k) r ∅ 0)
      ⊢ iprop(((Ow c O ∗ atPos ER (kcell c k) (r + 1) ∅ 0 ∗ reached ER (kcell c k) (r + 1) ∗ kPay X W A c k r 0) -∗ WP c (kont ⟨⟩) Q)
        -∗ WP c (.op w kont) Q) := by
  unfold Ow
  iintro ⟨#HR, Hc, ⟨%Ws, HO⟩, Hat⟩ HK
  iapply (Rounds.wp_wait_rest_token 𝒱₀ ER (Rd X W A) (c : Thread nD τ) none (κ := K (c, k)) hw (Set.mem_univ _) () (O := O) (W := Ws) (R := r) (m := 0) (T := ∅)
      (by rw [Nat.zero_add]; exact (expect_one X W A c k r h).symm)) $$ [Hc HO Hat]
  · isplitr; · iapply (rec_inv X W A K c k); iexact HR
    isplitl [Hc]; · iexact Hc
    isplitl [HO]; · iexact HO
    isplitr
    · iapply (rec_wait X W A K c k hO); iexact HR
    iexact Hat
  iintro ⟨HO, Hat, Hre, Hpay⟩
  ihave Hp := (Entails.of_eq (rest_one X W A c k r h)) $$ Hpay
  iapply HK
  isplitl [HO]; · iexists _; iexact HO
  isplitl [Hat]; · iexact Hat
  isplitl [Hre]; · iexact Hre
  iexact Hp

/-- The round of panel part `(sOf i, q)` that belongs to step `i`. -/
def rOf (i : Fin 32) : ℕ := i.val / 10
theorem sOf_rOf (i : Fin 32) : (sOf i).val + 10 * rOf i = i.val := Nat.mod_add_div _ _

omit [FloatOps F] in
theorem kDuties_w (i : Fin 32) (q : Fin 4) : kDuties c (.w (sOf i) q) (rOf i) = {0} :=
  if_pos (by rw [sOf_rOf]; exact i.isLt)

omit [FloatOps F] in
theorem kPay_w (i : Fin 32) (q : Fin 4) (j : Fin 31) :
    kPay X W A c (.w (sOf i) q) (rOf i) j = iprop(bPts c (sOf i) q (WB W c i) ∗ wPts c i q (W c)) := by
  have e : (⟨(sOf i).val + 10 * rOf i, by rw [sOf_rOf]; exact i.isLt⟩ : Fin 32) = i := Fin.ext (sOf_rOf i)
  refine (dif_pos (by rw [sOf_rOf]; exact i.isLt)).trans ?_
  rw [e]

omit [FloatOps F] in
theorem bPts_written (i : Fin 32) (q : Fin 4) (f : S10x512x2048.Idx → Elt F .f32) :
    ((bPart (sOf i) q).view.loc (c : Thread nD τ) ↦[(bPart (sOf i) q).view.set]{fullShare}
      ((bPart (sOf i) q).view.write (Elt F) f ((wPart c i q).view.read (Elt F) (W c)) Finset.univ) : sProp 𝕄) = bPts c (sOf i) q (WB W c i) := by
  unfold bPts
  exact pointsTo_congr (write_of_read (bPart (sOf i) q).view (WB W c i) f _ (WB_read W c i q))

theorem wp_wStart {Q : PUnit → sProp 𝕄} (i : Fin 32) (q : Fin 4) (f : S10x512x2048.Idx → Elt F .f32) (k : PG F) :
    iprop(Rec X W A K ∗ bPts c (sOf i) q f ∗ wPts c i q (W c) ∗ dutyTok ER (kcell c (.w (sOf i) q)) (rOf i) 0 ∗ reached ER (kcell c (.w (sOf i) q)) (rOf i))
      ⊢ iprop((cred (tallyAt (kcell c (.w (sOf i) q)) () Nw) -∗ WP c k Q) -∗ WP c (wStart c i q k) Q) := by
  unfold wStart bPts wPts
  iintro ⟨#HR, Hb, Hw, Ht, Hr⟩ HK
  iapply (Rounds.wp_copy_pointsTo 𝒱₀ ER (Rd X W A) (c : Thread nD τ) none (κ := K (c, .w (sOf i) q)) (r := rOf i) (d := 0)
    (src := wPart c i q) (dst := bPart (sOf i) q) (sem := ksem (.w (sOf i) q)) (q := fullShare) (fs := W c) (fd := f)
    (by rw [duties_k, kDuties_w]; exact Finset.mem_singleton_self _) () Nw rfl (amount_k X W A c _ _ _)
    (by rw [payload_k, kPay_w, bPts_written]; unfold wPts; exact BI.Entails.refl _)) $$ [Hb Hw Ht Hr]
  · isplitr; · iapply (rec_inv X W A K c (.w (sOf i) q)); iexact HR
    isplitl [Hw]; · iexact Hw
    isplitl [Hb]; · iexact Hb
    isplitl [Ht]; · iexact Ht
    iexact Hr
  iexact HK

theorem wp_wWait {Q : PUnit → sProp 𝕄} (hO : Above 0 O) (i : Fin 32) (q : Fin 4) (k : PG F) :
    iprop(Rec X W A K ∗ cred (tallyAt (kcell c (.w (sOf i) q)) () Nw) ∗ Ow c O ∗ atPos ER (kcell c (.w (sOf i) q)) (rOf i) ∅ 0)
      ⊢ iprop(((Ow c O ∗ atPos ER (kcell c (.w (sOf i) q)) (rOf i + 1) ∅ 0 ∗ reached ER (kcell c (.w (sOf i) q)) (rOf i + 1)
          ∗ bPts c (sOf i) q (WB W c i) ∗ wPts c i q (W c)) -∗ WP c k Q) -∗ WP c (wWait c i q k) Q) := by
  rw [← kPay_w X W A c i q 0]
  unfold wWait
  exact wait_one X W A K c (.w (sOf i) q) (rOf i) (kDuties_w c i q) hO (by exact wpE_waitDma2_eq 𝒱₀ (c : Thread nD τ) none Set.univ) (fun _ => k)

omit [FloatOps F] in
theorem pay_bar (j : Fin 31) :
    iprop((∃ f, gPts c (slotOf j) f) ∗ ∃ f, aPts c fullShare (fwd c j) f) = (Rd X W A).payload (kcell (fwd c j) .bar) 0 j := by
  rw [payload_k]
  show _ = iprop((∃ f, gPts (bwd (fwd c j) j) (slotOf j) f) ∗ ∃ f, aPts (bwd (fwd c j) j) fullShare (fwd c j) f)
  rw [bwd_fwd]

/-- The signal to the other device `j`. -/
theorem wp_sig1 {Q : PUnit → sProp 𝕄} (j : Fin 31) (k : PG F) :
    iprop(Rec X W A K ∗ Ow c (O + tallyAt (kcell (fwd c j) .bar) () 1) ∗ dutyTok ER (kcell (fwd c j) .bar) 0 j
        ∗ (∃ f, gPts c (slotOf j) f) ∗ ∃ f, aPts c fullShare (fwd c j) f)
      ⊢ iprop((Ow c O -∗ WP c k Q) -∗ WP c (sig1 c j k) Q) := by
  unfold sig1 Ow
  iintro ⟨#HR, ⟨%Ws, HO⟩, Ht, Hg, Ha⟩ HK
  iapply (Rounds.wp_signal 𝒱₀ ER (Rd X W A) (c : Thread nD τ) none (dst := (fwd c j : Thread nD τ)) (κ := K (fwd c j, .bar)) (d := j) (r := 0)
      (sem := barS) (by rw [show (((fwd c j : Dev nD) : Thread nD τ), SemLoc.reg barS) = kcell (fwd c j) .bar from rfl, duties_k]; exact Finset.mem_univ _)
      (amount_k X W A (fwd c j) .bar 0 j) () O rfl) $$ [HO Ht Hg Ha]
  · isplitr; · iapply (rec_inv X W A K (fwd c j) .bar); iexact HR
    isplitl [HO]; · iexact HO
    isplitl [Ht]; · iexact Ht
    isplitl [Hg Ha]
    · iapply (show iprop((∃ f, gPts c (slotOf j) f) ∗ ∃ f, aPts c fullShare (fwd c j) f) ⊢ (Rd X W A).payload ((fwd c j : Thread nD τ), SemLoc.reg barS) 0 j
        from Entails.of_eq (pay_bar X W A c j))
      isplitl [Hg]; · iexact Hg
      iexact Ha
    · iapply (rec_reached X W A K (fwd c j) .bar); iexact HR
  iintro HO
  iapply HK
  iexists _; iexact HO

/-- The wait for all the other devices. -/
theorem wp_barWait {Q : PUnit → sProp 𝕄} (hO : Above 1 O) (k : PG F) :
    iprop(Rec X W A K ∗ cred (tallyAt (kcell c .bar) () 31) ∗ Ow c O ∗ atPos ER (kcell c .bar) 0 ∅ 0)
      ⊢ iprop(((Ow c O ∗ atPos ER (kcell c .bar) 1 ∅ 0
          ∗ bigSep Finset.univ fun j : Fin 31 => iprop((∃ f, gPts (bwd c j) (slotOf j) f) ∗ ∃ f, aPts (bwd c j) fullShare c f)) -∗ WP c k Q)
        -∗ WP c (.op (.semWait barS 31) fun _ => k) Q) := by
  unfold Ow
  iintro ⟨#HR, Hc, ⟨%Ws, HO⟩, Hat⟩ HK
  iapply (Rounds.wp_wait_rest_token 𝒱₀ ER (Rd X W A) (c : Thread nD τ) none (κ := K (c, .bar)) (sm := ksem .bar) (k' := 31)
      (wpE_semWait_eq 𝒱₀ (c : Thread nD τ) none Set.univ) (Set.mem_univ _) () (O := O) (W := Ws) (R := 0) (m := 0) (T := ∅)
      (by rw [Nat.zero_add]; exact (expect_bar X W A c).symm)) $$ [Hc HO Hat]
  · isplitr; · iapply (rec_inv X W A K c .bar); iexact HR
    isplitl [Hc]; · iexact Hc
    isplitl [HO]; · iexact HO
    isplitr
    · iapply (rec_wait X W A K c .bar hO); iexact HR
    iexact Hat
  iintro ⟨HO, Hat, Hre, Hpay⟩
  ihave Hp := (Entails.of_eq (rest_bar X W A c)) $$ Hpay
  iapply HK
  isplitl [HO]; · iexists _; iexact HO
  isplitl [Hat]; · iexact Hat
  iexact Hp

omit [FloatOps F] in
theorem gPts_written (j : Fin 31) (f : S128x4096.Idx → Elt F .f32) :
    ((gSlot (slotOf j)).view.loc (bwd c j : Thread nD τ) ↦[(gSlot (slotOf j)).view.set]{fullShare}
      ((gSlot (slotOf j)).view.write (Elt F) f ((xRows c j).view.read (Elt F) (X c)) Finset.univ) : sProp 𝕄)
      = gPts (bwd c j) (slotOf j) (XG X (bwd c j)) := by
  unfold gPts
  exact pointsTo_congr (write_of_read (gSlot (slotOf j)).view (XG X (bwd c j)) f _ (XG_read X c j))

/-- The copy of the rows of `x` to the other device `j`. -/
theorem wp_xSend {Q : PUnit → sProp 𝕄} (j : Fin 31) (f : S128x4096.Idx → Elt F .f32) (k : PG F) :
    iprop(Rec X W A K ∗ xPts c j (X c) ∗ gPts (bwd c j) (slotOf j) f ∗ Ow c (O + tallyAt (kcell (bwd c j) (.xr j)) () Nx)
        ∗ dutyTok ER (kcell c (.xs j)) 0 0 ∗ dutyTok ER (kcell (bwd c j) (.xr j)) 0 0)
      ⊢ iprop(((cred (tallyAt (kcell c (.xs j)) () Nx) ∗ Ow c O) -∗ WP c k Q) -∗ WP c (xSend c j k) Q) := by
  unfold xSend Ow
  iintro ⟨#HR, Hx, Hg, ⟨%Ws, HO⟩, Ht, Ht'⟩ HK
  iapply (Rounds.wp_send_pointsTo 𝒱₀ ER (Rd X W A) (c : Thread nD τ) none (κ₁ := K (c, .xs j)) (κ₂ := K (bwd c j, .xr j))
    (r₁ := 0) (r₂ := 0) (d₁ := 0) (d₂ := 0) (c' := (bwd c j : Thread nD τ)) (src := xRows c j) (dst := gSlot (slotOf j))
    (sS := ksem (.xs j)) (sem := ksem (.xr j)) (q := fullShare) (fs := X c) (fd := f)
    (by rw [duties_k]; exact Finset.mem_singleton_self _) (by rw [duties_k]; exact Finset.mem_singleton_self _)
    () () Nx rfl (amount_k X W A c (.xs j) 0 0) (amount_k X W A (bwd c j) (.xr j) 0 0) O rfl (W := Ws)
    (by rw [payload_k]; exact BI.Entails.refl _)
    (by rw [payload_k, gPts_written]; exact BI.Entails.refl _)) $$ [Hx Hg HO Ht Ht']
  · isplitr; · iapply (rec_inv X W A K c (.xs j)); iexact HR
    isplitr; · iapply (rec_inv X W A K (bwd c j) (.xr j)); iexact HR
    isplitl [Hx]; · unfold xPts; iexact Hx
    isplitl [Hg]; · unfold gPts; iexact Hg
    isplitl [HO]; · iexact HO
    isplitl [Ht]; · iexact Ht
    isplitr; · iapply (rec_reached X W A K c (.xs j)); iexact HR
    isplitl [Ht']; · iexact Ht'
    iapply (rec_reached X W A K (bwd c j) (.xr j)); iexact HR
  iintro ⟨Hc, HO⟩
  iapply HK
  isplitl [Hc]; · iexact Hc
  iexists _; iexact HO

theorem wp_xSent {Q : PUnit → sProp 𝕄} (hO : Above 0 O) (j : Fin 31) (k : PG F) :
    iprop(Rec X W A K ∗ cred (tallyAt (kcell c (.xs j)) () Nx) ∗ Ow c O ∗ atPos ER (kcell c (.xs j)) 0 ∅ 0)
      ⊢ iprop(((Ow c O ∗ atPos ER (kcell c (.xs j)) 1 ∅ 0 ∗ reached ER (kcell c (.xs j)) 1 ∗ xPts c j (X c)) -∗ WP c k Q) -∗ WP c (xSent c j k) Q) := by
  unfold xSent
  exact wait_one X W A K c (.xs j) 0 rfl hO (by exact wpE_waitDma2_eq 𝒱₀ (c : Thread nD τ) none Set.univ) (fun _ => k)

theorem wp_xRecv {Q : PUnit → sProp 𝕄} (hO : Above 2 O) (j : Fin 31) (k : PG F) :
    iprop(Rec X W A K ∗ cred (tallyAt (kcell c (.xr j)) () Nx) ∗ Ow c O ∗ atPos ER (kcell c (.xr j)) 0 ∅ 0)
      ⊢ iprop(((Ow c O ∗ atPos ER (kcell c (.xr j)) 1 ∅ 0 ∗ reached ER (kcell c (.xr j)) 1 ∗ gPts c (slotOf j) (XG X c)) -∗ WP c k Q) -∗ WP c (xRecv j k) Q) := by
  unfold xRecv
  exact wait_one X W A K c (.xr j) 0 rfl hO (by exact wpE_waitDma2_eq 𝒱₀ (c : Thread nD τ) none Set.univ) (fun _ => k)

omit [FloatOps F] in
theorem kDuties_ts (j : Fin 31) : kDuties c (.ts (fwd c j)) 0 = {0} := if_pos ⟨rfl, fwd_ne c j⟩
omit [FloatOps F] in
theorem kDuties_tr (j : Fin 31) : kDuties c (.tr (fwd c j)) 0 = {0} := if_pos ⟨rfl, fwd_ne c j⟩
omit [FloatOps F] in
theorem kDuties_tr' (j : Fin 31) : kDuties (fwd c j) (.tr c) 0 = {0} := if_pos ⟨rfl, (fwd_ne c j).symm⟩

omit [FloatOps F] in
theorem kPay_ts (j : Fin 31) : kPay X W A c (.ts (fwd c j)) 0 0 = aPts c (lent j) c (AT A) := by
  show aPts c (lent (jOf c (fwd c j))) c (AT A) = _
  rw [jOf_fwd]

omit [FloatOps F] in
theorem aPts_written (e : Dev nD) (f : S32x8x128.Idx → Elt F .f32) :
    ((aMe c).view.loc (e : Thread nD τ) ↦[(aMe c).view.set]{fullShare}
      ((aMe c).view.write (Elt F) f ((aMe c).view.read (Elt F) (AT A)) Finset.univ) : sProp 𝕄)
      = aPts e fullShare c (AT A) := by
  unfold aPts
  exact pointsTo_congr (write_of_read (aMe c).view (AT A) f _ rfl)

/-- The copy of this device's maximum to the other device `j`. -/
theorem wp_aSend {Q : PUnit → sProp 𝕄} (j : Fin 31) (f : S32x8x128.Idx → Elt F .f32) (k : PG F) :
    iprop(Rec X W A K ∗ aPts c (lent j) c (AT A) ∗ aPts (fwd c j) fullShare c f ∗ Ow c (O + tallyAt (kcell (fwd c j) (.tr c)) () Na)
        ∗ dutyTok ER (kcell c (.ts (fwd c j))) 0 0 ∗ dutyTok ER (kcell (fwd c j) (.tr c)) 0 0)
      ⊢ iprop(((cred (tallyAt (kcell c (.ts (fwd c j))) () Na) ∗ Ow c O) -∗ WP c k Q) -∗ WP c (aSend c j k) Q) := by
  simp only [aSend, Ow, semFwd_as, semMe_ar]
  iintro ⟨#HR, Hx, Hg, ⟨%Ws, HO⟩, Ht, Ht'⟩ HK
  iapply (Rounds.wp_send_pointsTo 𝒱₀ ER (Rd X W A) (c : Thread nD τ) none (κ₁ := K (c, .ts (fwd c j))) (κ₂ := K (fwd c j, .tr c))
    (r₁ := 0) (r₂ := 0) (d₁ := 0) (d₂ := 0) (c' := (fwd c j : Thread nD τ)) (src := aMe c) (dst := aMe c)
    (sS := ksem (.ts (fwd c j))) (sem := ksem (.tr c)) (q := lent j) (fs := AT A) (fd := f)
    (by rw [duties_k, kDuties_ts]; exact Finset.mem_singleton_self _) (by rw [duties_k, kDuties_tr']; exact Finset.mem_singleton_self _)
    () () Na rfl (amount_k X W A c (.ts (fwd c j)) 0 0) (amount_k X W A (fwd c j) (.tr c) 0 0) O rfl (W := Ws)
    (by rw [payload_k, kPay_ts]; exact BI.Entails.refl _)
    (by rw [payload_k, aPts_written]; exact BI.Entails.refl _)) $$ [Hx Hg HO Ht Ht']
  · isplitr; · iapply (rec_inv X W A K c (.ts (fwd c j))); iexact HR
    isplitr; · iapply (rec_inv X W A K (fwd c j) (.tr c)); iexact HR
    isplitl [Hx]; · unfold aPts; iexact Hx
    isplitl [Hg]; · unfold aPts; iexact Hg
    isplitl [HO]; · iexact HO
    isplitl [Ht]; · iexact Ht
    isplitr; · iapply (rec_reached X W A K c (.ts (fwd c j))); iexact HR
    isplitl [Ht']; · iexact Ht'
    iapply (rec_reached X W A K (fwd c j) (.tr c)); iexact HR
  iintro ⟨Hc, HO⟩
  iapply HK
  isplitl [Hc]; · iexact Hc
  iexists _; iexact HO

theorem wp_aSent {Q : PUnit → sProp 𝕄} (hO : Above 0 O) (j : Fin 31) (k : PG F) :
    iprop(Rec X W A K ∗ cred (tallyAt (kcell c (.ts (fwd c j))) () Na) ∗ Ow c O ∗ atPos ER (kcell c (.ts (fwd c j))) 0 ∅ 0)
      ⊢ iprop(((Ow c O ∗ atPos ER (kcell c (.ts (fwd c j))) 1 ∅ 0 ∗ reached ER (kcell c (.ts (fwd c j))) 1 ∗ aPts c (lent j) c (AT A)) -∗ WP c k Q)
        -∗ WP c (aSent c j k) Q) := by
  unfold aSent
  rw [semFwd_as, ← kPay_ts X W A c j]
  exact wait_one X W A K c (.ts (fwd c j)) 0 (kDuties_ts c j) hO (by exact wpE_waitDma2_eq 𝒱₀ (c : Thread nD τ) none Set.univ) (fun _ => k)

theorem wp_aRecv {Q : PUnit → sProp 𝕄} (hO : Above 3 O) (j : Fin 31) (k : PG F) :
    iprop(Rec X W A K ∗ cred (tallyAt (kcell c (.tr (fwd c j))) () Na) ∗ Ow c O ∗ atPos ER (kcell c (.tr (fwd c j))) 0 ∅ 0)
      ⊢ iprop(((Ow c O ∗ atPos ER (kcell c (.tr (fwd c j))) 1 ∅ 0 ∗ reached ER (kcell c (.tr (fwd c j))) 1 ∗ aPts c fullShare (fwd c j) (AT A)) -∗ WP c k Q)
        -∗ WP c (aRecv c j k) Q) := by
  unfold aRecv
  rw [semFwd_ar]
  exact wait_one X W A K c (.tr (fwd c j)) 0 (kDuties_tr c j) hO (by exact wpE_waitDma2_eq 𝒱₀ (c : Thread nD τ) none Set.univ) (fun _ => k)

/-- A semaphore past its last round gives its counter, at zero. -/
theorem cell_end (k : Kd) : iprop(Rec X W A K ∗ atPos ER (kcell c k) (kEnd c k) ∅ 0) ⊢ iprop(|={Set.univ}=> semVal (kcell c k) 0) := by
  iintro ⟨#HR, Hat⟩
  iapply (Rounds.cell_close ER (Rd X W A) (Set.mem_univ (K (c, k))) (fun h => h) (R := kEnd c k) (fun r hr => duties_end X W A c k r hr))
  isplitr; · iapply (rec_inv X W A K c k); iexact HR
  iexact Hat

end Cert.KernelIdeal.Own

end
-- ==== Proof.Vals.lean ====
/-
  The blocks the steps compute, and the vector loads and stores of one step.
-/
module

public import proofs.«01_k».proof.Proof.Steps

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x128.Idx → Elt F .f32) (W : Dev nD → S4096x8192.Idx → Elt F .f32) (A : Dev nD → Elt F .f32)
variable (c : Dev nD)

/-- Group `p` of the gathered rows, as a load reads it. -/
def gV (p : Fin 8) : Vec F S128x512 .f32 := (gM.access (gRect p)).read (Elt F) (XG X c)
/-- The panel of step `i`, as a load reads it. -/
def bV (i : Fin 32) : Vec F S1x512x2048 .f32 := (bM.access (bRect (sOf i))).read (Elt F) (WB W c i)

/-- The step of row group `p` on column block `g`. -/
def stepOf (p : Fin 8) (g : Fin 4) : Fin 32 := ⟨4 * p.val + g.val, by have := p.isLt; have := g.isLt; omega⟩

/-- Column block `g` after the row groups `0, …, p`. -/
def accN (g : Fin 4) : ℕ → FVec F S128x2048 .f32
  | 0 => k0_pay3 (gV X c 0) (bV W c (stepOf 0 g))
  | p + 1 => if h : p + 1 < 8 then k0_pay7 (gV X c ⟨p + 1, h⟩) (bV W c (stepOf ⟨p + 1, h⟩ g)) (accN g p) else accN g p

/-- The block that step `i` stores. -/
def blk (i : Fin 32) : FVec F S128x2048 .f32 := accN X W c (cOf i) (pOf i).val

theorem stepOf_self (i : Fin 32) : stepOf (pOf i) (cOf i) = i := Fin.ext (Nat.div_add_mod i.val 4)

theorem blk_first (i : Fin 32) (h : i.val < 4) : blk X W c i = k0_pay3 (gV X c (pOf i)) (bV W c i) := by
  have hp : pOf i = 0 := Fin.ext (Nat.div_eq_of_lt h)
  have hs : stepOf 0 (cOf i) = i := by rw [← hp]; exact stepOf_self i
  unfold blk
  rw [hp]
  show k0_pay3 (gV X c 0) (bV W c (stepOf 0 (cOf i))) = _
  rw [hs]

theorem blk_next (i i' : Fin 32) (h : i.val = i'.val + 4) :
    blk X W c i = k0_pay7 (gV X c (pOf i)) (bV W c i) (blk X W c i') := by
  have hc : cOf i' = cOf i := Fin.ext (by show i'.val % 4 = i.val % 4; omega)
  have hv : (pOf i).val = (pOf i').val + 1 := by show i.val / 4 = i'.val / 4 + 1; omega
  have hlt : (pOf i').val + 1 < 8 := by rw [← hv]; exact (pOf i).isLt
  have hp : (⟨(pOf i').val + 1, hlt⟩ : Fin 8) = pOf i := Fin.ext hv.symm
  unfold blk
  rw [hc, hv]
  refine (dif_pos hlt).trans ?_
  rw [hp, stepOf_self]

/-! ## Loads and stores -/

theorem gGrp_inj (p : Fin 8) (q q' : Fin 4) (h : q ≠ q') : gGrp p q ≠ gGrp p q' := fun he => h (Fin.ext (by
  have e : 4 * p.val + q.val = 4 * p.val + q'.val := congrArg Fin.val he
  omega))

theorem gGroup_pts (p : Fin 8) (f : S128x4096.Idx → Elt F .f32) :
    (bigSep Finset.univ fun q : Fin 4 => (gPts c (gGrp p q) f : sProp 𝕄))
      = (gM.view.loc (c : Thread nD τ) ↦[Finset.univ.biUnion fun q : Fin 4 => (gSlot (gGrp p q)).view.set]{fullShare} f) := by
  rw [pointsTo_biUnion (ℓ := gM.view.loc (c : Thread nD τ)) Finset.univ (fun q : Fin 4 => (gSlot (gGrp p q)).view.set)
    (fun q _ q' _ h => gSlot_disj _ _ (gGrp_inj p q q' h))]
  rfl

theorem bPanel_pts (s : Fin 10) (f : S10x512x2048.Idx → Elt F .f32) :
    (bigSep Finset.univ fun q : Fin 4 => (bPts c s q f : sProp 𝕄))
      = (bM.view.loc (c : Thread nD τ) ↦[Finset.univ.biUnion fun q : Fin 4 => (bPart s q).view.set]{fullShare} f) := by
  rw [pointsTo_biUnion (ℓ := bM.view.loc (c : Thread nD τ)) Finset.univ (fun q : Fin 4 => (bPart s q).view.set)
    (fun q _ q' _ h => bPart_disj (s, q) (s, q') fun he => h (congrArg Prod.snd he))]
  rfl

theorem wp_ldG {Q : PUnit → sProp 𝕄} (p : Fin 8) (k : Vec F S128x512 .f32 → PG F) :
    (bigSep Finset.univ fun q : Fin 4 => gPts c (gGrp p q) (XG X c))
      ⊢ iprop(((bigSep Finset.univ fun q : Fin 4 => gPts c (gGrp p q) (XG X c)) -∗ WP c (k (gV X c p)) Q) -∗ WP c (ldG p k) Q) := by
  rw [gGroup_pts]
  unfold ldG
  exact wp_load_rect 𝒱₀ (c : Thread nD τ) none Set.univ (m := gM) (r := gRect p) (q := fullShare) (f := XG X c) (gRect_sub p)

theorem wp_ldB {Q : PUnit → sProp 𝕄} (i : Fin 32) (k : Vec F S1x512x2048 .f32 → PG F) :
    (bigSep Finset.univ fun q : Fin 4 => bPts c (sOf i) q (WB W c i))
      ⊢ iprop(((bigSep Finset.univ fun q : Fin 4 => bPts c (sOf i) q (WB W c i)) -∗ WP c (k (bV W c i)) Q) -∗ WP c (ldB (sOf i) k) Q) := by
  rw [bPanel_pts]
  unfold ldB
  exact wp_load_rect 𝒱₀ (c : Thread nD τ) none Set.univ (m := bM) (r := bRect (sOf i)) (q := fullShare) (f := WB W c i) (bRect_sub (sOf i))

/-- The staged result, whole. -/
def oPts (f : S128x8192.Idx → Elt F .f32) : sProp 𝕄 := oM.view.loc (c : Thread nD τ) ↦{fullShare} f

theorem wp_ldO {Q : PUnit → sProp 𝕄} (g : Fin 4) (f : S128x8192.Idx → Elt F .f32) (k : Vec F S128x2048 .f32 → PG F) :
    oPts c f ⊢ iprop((oPts c f -∗ WP c (k ((oM.access (oRect g)).read (Elt F) f)) Q) -∗ WP c (ldO g k) Q) := by
  unfold ldO oPts
  exact wp_load_rect 𝒱₀ (c : Thread nD τ) none Set.univ (m := oM) (r := oRect g) (S := Finset.univ) (q := fullShare) (f := f) (Finset.subset_univ _)

theorem wp_stO {Q : PUnit → sProp 𝕄} (g : Fin 4) (v : FVec F S128x2048 .f32) (f : S128x8192.Idx → Elt F .f32) (k : PG F) :
    oPts c f ⊢ iprop((oPts c ((oM.access (oRect g)).write (Elt F) f v Finset.univ) -∗ WP c k Q) -∗ WP c (stO g v k) Q) := by
  unfold stO oPts
  iintro Ho HK
  iapply (wp_store 𝒱₀ (c : Thread nD τ) none Set.univ (m := oM) (r := oRect g) (Mk := Finset.univ) (S := Finset.univ) (Finset.subset_univ _)) $$ Ho
  iexact HK

theorem oRect_disj (g g' : Fin 4) (h : g ≠ g') : Disjoint (oRect g).set (oRect g').set := by
  refine Finset.disjoint_left.mpr fun i hi hi' => ?_
  have h1 : 2048 * g.val ≤ (i 1).val ∧ (i 1).val < 2048 * g.val + 2048 := Rect.mem_set_unit.mp hi 1
  have h2 : 2048 * g'.val ≤ (i 1).val ∧ (i 1).val < 2048 * g'.val + 2048 := Rect.mem_set_unit.mp hi' 1
  exact h (Fin.ext (by omega))

theorem oSet (g : Fin 4) : (oM.access (oRect g)).set = (oRect g).set := View.set_slice_whole _ _
theorem oSet_disj (g g' : Fin 4) (h : g ≠ g') : Disjoint (oM.access (oRect g)).set (oM.access (oRect g')).set := by
  rw [oSet, oSet]; exact oRect_disj g g' h
theorem oRead_other (f : S128x8192.Idx → Elt F .f32) (v : FVec F S128x2048 .f32) (g g' : Fin 4) (h : g ≠ g') :
    (oM.access (oRect g)).read (Elt F) ((oM.access (oRect g')).write (Elt F) f v Finset.univ) = (oM.access (oRect g)).read (Elt F) f :=
  View.read_slice_write_slice_of_disjoint (Val := Elt F) (v := oM.view) (oRect g) (oRect g') f v Finset.univ
    (oSet_disj g g' h)
theorem oRead_same (f : S128x8192.Idx → Elt F .f32) (v : FVec F S128x2048 .f32) (g : Fin 4) :
    (oM.access (oRect g)).read (Elt F) ((oM.access (oRect g)).write (Elt F) f v Finset.univ) = v :=
  View.read_write_univ (Val := Elt F) (v := oM.access (oRect g)) f v

/-- What the staged result holds before step `t`: the blocks of the last four steps. -/
def OHas (t : ℕ) (f : S128x8192.Idx → Elt F .f32) : Prop :=
  ∀ i : Fin 32, i.val < t → t ≤ i.val + 4 → (oM.access (oRect (cOf i))).read (Elt F) f = blk X W c i

theorem OHas_step (i : Fin 32) (f : S128x8192.Idx → Elt F .f32) (h : OHas X W c i.val f) :
    OHas X W c (i.val + 1) ((oM.access (oRect (cOf i))).write (Elt F) f (blk X W c i) Finset.univ) := by
  intro b hb hb'
  rcases Nat.lt_succ_iff_lt_or_eq.mp hb with hlt | heq
  · have hne : cOf b ≠ cOf i := fun e => by
      have e' : b.val % 4 = i.val % 4 := congrArg Fin.val e
      omega
    refine Eq.trans ?_ (h b hlt (by omega))
    exact oRead_other f (blk X W c i) (cOf b) (cOf i) hne
  · have e : b = i := Fin.ext heq
    subst e
    exact oRead_same f (blk X W c b) (cOf b)

/-- The staged result before step `t`. -/
def OS (t : ℕ) : sProp 𝕄 := iprop(∃ f, oPts c f ∗ ⌜OHas X W c t f⌝)

/-- The load, product and store of step `i`. -/
theorem wp_compute {Q : PUnit → sProp 𝕄} (i : Fin 32) (k : FVec F S128x2048 .f32 → PG F) :
    OS X W c i.val ⊢ iprop((OS X W c (i.val + 1) -∗ WP c (refill c i (k (blk X W c i))) Q) -∗
      WP c (if i.val < 4 then ldO (cOf i) fun _ => stO (cOf i) (k0_pay3 (gV X c (pOf i)) (bV W c i)) (refill c i (k (k0_pay3 (gV X c (pOf i)) (bV W c i))))
        else ldO (cOf i) fun o => ldO (cOf i) fun _ => stO (cOf i) (k0_pay7 (gV X c (pOf i)) (bV W c i) o)
          (refill c i (k (k0_pay7 (gV X c (pOf i)) (bV W c i) o)))) Q) := by
  unfold OS
  iintro ⟨%f, Ho, %hf⟩ HK
  by_cases h : i.val < 4
  · rw [if_pos h, ← blk_first X W c i h]
    iapply (wp_ldO c (cOf i) f) $$ Ho
    iintro Ho
    iapply (wp_stO c (cOf i) (blk X W c i) f) $$ Ho
    iintro Ho
    iapply HK
    iexists _
    isplitl [Ho]; · iexact Ho
    ipureintro; exact OHas_step X W c i f hf
  · rw [if_neg h]
    have hi := i.isLt
    have hb : (oM.access (oRect (cOf i))).read (Elt F) f = blk X W c ⟨i.val - 4, by omega⟩ := by
      have h1 := hf ⟨i.val - 4, by omega⟩ (show i.val - 4 < i.val by omega) (show i.val ≤ i.val - 4 + 4 by omega)
      have hc : cOf ⟨i.val - 4, by omega⟩ = cOf i := Fin.ext (by show (i.val - 4) % 4 = i.val % 4; omega)
      rwa [hc] at h1
    have hn : blk X W c i = k0_pay7 (gV X c (pOf i)) (bV W c i) ((oM.access (oRect (cOf i))).read (Elt F) f) := by
      rw [hb]; exact blk_next X W c i _ (show i.val = i.val - 4 + 4 by omega)
    iapply (wp_ldO c (cOf i) f) $$ Ho
    iintro Ho
    iapply (wp_ldO c (cOf i) f) $$ Ho
    iintro Ho
    rw [← hn]
    iapply (wp_stO c (cOf i) (blk X W c i) f) $$ Ho
    iintro Ho
    iapply HK
    iexists _
    isplitl [Ho]; · iexact Ho
    ipureintro; exact OHas_step X W c i f hf

end Cert.KernelIdeal.Own

end
-- ==== Proof.Slabs.lean ====
/-
  The state between two steps, and one step from it to the next.
-/
module

public import proofs.«01_k».proof.Proof.Vals

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x128.Idx → Elt F .f32) (W : Dev nD → S4096x8192.Idx → Elt F .f32) (A : Dev nD → Elt F .f32)
variable (K : Dev nD × Kd → ℕ) (c : Dev nD) (O : CellTallies nD τ sig Unit)

/-! ## The gathered rows -/

/-- Slot `t` before its wait; slot 0 holds this device's own rows. -/
def SW (t : Fin 32) : sProp 𝕄 :=
  if h : 0 < t.val then iprop(cred (tallyAt (kcell c (.xr ⟨t.val - 1, by have := t.isLt; omega⟩)) () Nx) ∗ atPos ER (kcell c (.xr ⟨t.val - 1, by have := t.isLt; omega⟩)) 0 ∅ 0)
  else gPts c t (XG X c)
/-- The position of the semaphore of slot `t` after its wait. -/
def SE (t : Fin 32) : sProp 𝕄 :=
  if h : 0 < t.val then atPos ER (kcell c (.xr ⟨t.val - 1, by have := t.isLt; omega⟩)) 1 ∅ 0 else iprop(emp)
/-- Slot `t` after its wait. -/
def SD (t : Fin 32) : sProp 𝕄 := iprop(gPts c t (XG X c) ∗ SE c t)

theorem SW_zero : SW X c 0 = gPts c 0 (XG X c) := dif_neg (Nat.lt_irrefl 0)
theorem SE_zero : (SE c 0 : sProp 𝕄) = iprop(emp) := dif_neg (Nat.lt_irrefl 0)
theorem slotOf_pred (j : Fin 31) : (⟨(slotOf j).val - 1, by have := (slotOf j).isLt; omega⟩ : Fin 31) = j := Fin.ext (Nat.add_sub_cancel_left 1 j.val)
theorem slotOf_pos (j : Fin 31) : 0 < (slotOf j).val := Nat.lt_of_lt_of_le Nat.one_pos (Nat.le_add_right 1 j.val)
theorem SW_slot (j : Fin 31) : SW X c (slotOf j) = iprop(cred (tallyAt (kcell c (.xr j)) () Nx) ∗ atPos ER (kcell c (.xr j)) 0 ∅ 0) := by
  unfold SW; rw [dif_pos (slotOf_pos j), slotOf_pred]
theorem SE_slot (j : Fin 31) : (SE c (slotOf j) : sProp 𝕄) = atPos ER (kcell c (.xr j)) 1 ∅ 0 := by
  unfold SE; rw [dif_pos (slotOf_pos j), slotOf_pred]

def gWait (p : Fin 8) : sProp 𝕄 := bigSep Finset.univ fun q : Fin 4 => SW X c (gGrp p q)
def gDone (p : Fin 8) : sProp 𝕄 := bigSep Finset.univ fun q : Fin 4 => SD X c (gGrp p q)
/-- The row groups before step `t`. -/
def GS (t : ℕ) : sProp 𝕄 := fam (gWait X c) (gDone X c) ((t + 3) / 4)

/-- One wait for a slot. -/
theorem wp_slot {Q : PUnit → sProp 𝕄} (hO : Above 2 O) (j : Fin 31) (k : PG F) :
    iprop(Rec X W A K ∗ SW X c (slotOf j) ∗ Ow c O) ⊢ iprop((SD X c (slotOf j) ∗ Ow c O -∗ WP c k Q) -∗ WP c (xRecv j k) Q) := by
  unfold SD
  rw [SW_slot, SE_slot]
  iintro ⟨#HR, ⟨Hc, Hat⟩, HO⟩ HK
  iapply (wp_xRecv X W A K c hO j k) $$ [Hc Hat HO]
  · isplitr; · iexact HR
    isplitl [Hc]; · iexact Hc
    isplitl [HO]; · iexact HO
    iexact Hat
  iintro ⟨HO, Hat, -, Hg⟩
  iapply HK
  isplitr [HO]
  · isplitl [Hg]; · iexact Hg
    iexact Hat
  iexact HO

/-- The waits for the slots at the start of a row group. -/
def gWaits (i : Fin 32) (k' : PG F) : PG F :=
  if i.val = 0 then xRecv 0 (xRecv 1 (xRecv 2 k'))
  else if h : i.val % 4 = 0 ∧ 0 < i.val then
    each (List.finRange 4) (fun q k => xRecv (F := F) ⟨i.val + q.val - 1, by have := i.isLt; have := q.isLt; omega⟩ k) k'
  else k'

theorem waits_eq (i : Fin 32) (k : PG F) : waits c i k = gWaits i (each (List.finRange 4) (wWait c i) k) := rfl

theorem gGrp_slotOf (i : Fin 32) (h : i.val % 4 = 0) (h0 : 0 < i.val) (q : Fin 4) :
    gGrp (pOf i) q = slotOf ⟨i.val + q.val - 1, by have := i.isLt; have := q.isLt; omega⟩ :=
  Fin.ext (show 4 * (i.val / 4) + q.val = 1 + (i.val + q.val - 1) by omega)

theorem fin4 (Φ : Fin 4 → sProp 𝕄) : bigSep Finset.univ Φ = iprop(Φ 0 ∗ Φ 1 ∗ Φ 2 ∗ Φ 3) := by
  have e : (Finset.univ : Finset (Fin 4)) = insert 0 (insert 1 (insert 2 {3})) := by decide
  rw [e, bigSep_insert (by decide), bigSep_insert (by decide), bigSep_insert (by decide), bigSep_singleton]
  rfl

theorem wp_gWaits {Q : PUnit → sProp 𝕄} (hO : Above 2 O) (i : Fin 32) (k : PG F) :
    iprop(Rec X W A K ∗ GS X c i.val ∗ Ow c O) ⊢ iprop((GS X c (i.val + 1) ∗ Ow c O -∗ WP c k Q) -∗ WP c (gWaits i k) Q) := by
  unfold GS gWaits
  by_cases h4 : i.val % 4 = 0
  · have e1 : (i.val + 3) / 4 = (pOf i).val := by show _ = i.val / 4; omega
    have e2 : (i.val + 1 + 3) / 4 = (pOf i).val + 1 := by show _ = i.val / 4 + 1; omega
    rw [e1, e2, fam_out, fam_in]
    by_cases h0 : i.val = 0
    · have hi : i = 0 := Fin.ext h0
      subst hi
      rw [if_pos h0]
      unfold gWait gDone
      rw [fin4, fin4, show gGrp (pOf 0) 0 = 0 from rfl, show gGrp (pOf 0) 1 = slotOf 0 from rfl, show gGrp (pOf 0) 2 = slotOf 1 from rfl,
        show gGrp (pOf 0) 3 = slotOf 2 from rfl, SW_zero]
      iintro ⟨#HR, ⟨⟨H0, H1, H2, H3⟩, Hrest⟩, HO⟩ HK
      iapply (wp_slot X W A K c O hO 0 _) $$ [H1 HO]
      · isplitr; · iexact HR
        isplitl [H1]; · iexact H1
        iexact HO
      iintro ⟨H1, HO⟩
      iapply (wp_slot X W A K c O hO 1 _) $$ [H2 HO]
      · isplitr; · iexact HR
        isplitl [H2]; · iexact H2
        iexact HO
      iintro ⟨H2, HO⟩
      iapply (wp_slot X W A K c O hO 2 _) $$ [H3 HO]
      · isplitr; · iexact HR
        isplitl [H3]; · iexact H3
        iexact HO
      iintro ⟨H3, HO⟩
      iapply HK
      isplitr [HO]
      · isplitr [Hrest]
        · isplitl [H0]
          · unfold SD; rw [SE_zero]; isplitl [H0]; · iexact H0
            iempintro
          isplitl [H1]; · iexact H1
          isplitl [H2]; · iexact H2
          iexact H3
        iexact Hrest
      iexact HO
    · have hpos : 0 < i.val := Nat.pos_of_ne_zero h0
      rw [if_neg h0, dif_pos ⟨h4, hpos⟩]
      iintro ⟨#HR, ⟨Hw, Hrest⟩, HO⟩ HK
      unfold gWait gDone
      iapply (each_fam c Q (Rec X W A K) (fun q k => xRecv (F := F) ⟨i.val + q.val - 1, by have := i.isLt; have := q.isLt; omega⟩ k)
        (fun q : Fin 4 => SW X c (gGrp (pOf i) q)) (fun q : Fin 4 => SD X c (gGrp (pOf i) q)) (fun _ => Ow c O)
        (fun q k => by rw [gGrp_slotOf i h4 hpos q]; exact wp_slot X W A K c O hO _ k) k) $$ [Hw HO]
      · isplitr; · iexact HR
        isplitl [Hw]; · iexact Hw
        iexact HO
      iintro ⟨Hw, HO⟩
      iapply HK
      isplitr [HO]
      · isplitl [Hw]; · iexact Hw
        iexact Hrest
      iexact HO
  · have e : (i.val + 1 + 3) / 4 = (i.val + 3) / 4 := by omega
    rw [e, if_neg (fun h => h4 (by rw [h])), dif_neg (fun h => h4 h.1)]
    iintro ⟨-, HG, HO⟩ HK
    iapply HK
    isplitl [HG]; · iexact HG
    iexact HO

/-- The load of a row group that has arrived. -/
theorem wp_group {Q : PUnit → sProp 𝕄} (i : Fin 32) (k : Vec F S128x512 .f32 → PG F) :
    GS X c (i.val + 1) ⊢ iprop((GS X c (i.val + 1) -∗ WP c (k (gV X c (pOf i))) Q) -∗ WP c (ldG (pOf i) k) Q) := by
  have e : GS X c (i.val + 1) = iprop(((bigSep Finset.univ fun q : Fin 4 => gPts c (gGrp (pOf i) q) (XG X c))
      ∗ (bigSep Finset.univ fun q : Fin 4 => SE c (gGrp (pOf i) q)))
      ∗ bigSep (Finset.univ.erase (pOf i)) fun p : Fin 8 => if p.val < (i.val + 1 + 3) / 4 then gDone X c p else gWait X c p) := by
    unfold GS fam
    have hp : (pOf i).val < (i.val + 1 + 3) / 4 := by show i.val / 4 < _; omega
    have hd : gDone X c (pOf i) = iprop((bigSep Finset.univ fun q : Fin 4 => gPts c (gGrp (pOf i) q) (XG X c))
        ∗ bigSep Finset.univ fun q : Fin 4 => SE c (gGrp (pOf i) q)) := bigSep_sep' _ _ _
    rw [bigSep_univ_split (pOf i), if_pos hp, hd]
    rfl
  rw [e]
  iintro ⟨⟨Hg, He⟩, Hrest⟩ HK
  iapply (wp_ldG X c (pOf i) k) $$ Hg
  iintro Hg
  iapply HK
  isplitr [Hrest]
  · isplitl [Hg]; · iexact Hg
    iexact He
  iexact Hrest

/-! ## The panels -/

/-- What the copy for step `i` needs besides its panel part. -/
def wA (i : Fin 32) : sProp 𝕄 := bigSep Finset.univ fun q : Fin 4 => iprop(dutyTok ER (kcell c (.w (sOf i) q)) (rOf i) 0 ∗ wPts c i q (W c))
/-- The copy for step `i` under way. -/
def wB (i : Fin 32) : sProp 𝕄 := bigSep Finset.univ fun q : Fin 4 =>
  iprop(cred (tallyAt (kcell c (.w (sOf i) q)) () Nw) ∗ atPos ER (kcell c (.w (sOf i) q)) (rOf i) ∅ 0)
/-- A panel that no step needs any more. -/
def wFree (i : Fin 32) (q : Fin 4) : sProp 𝕄 :=
  if i.val + 10 < 32 then iprop(emp) else iprop((∃ f, bPts c (sOf i) q f) ∗ atPos ER (kcell c (.w (sOf i) q)) (rOf i + 1) ∅ 0)
/-- What is left after step `i`. -/
def wD (i : Fin 32) : sProp 𝕄 := bigSep Finset.univ fun q : Fin 4 => iprop(wPts c i q (W c) ∗ wFree c i q)

def wAt (t : ℕ) (i : Fin 32) : sProp 𝕄 := if i.val < t then wD W c i else if i.val < t + 10 then wB c i else wA W c i
/-- The panels before step `t`. -/
def WS (t : ℕ) : sProp 𝕄 := bigSep Finset.univ (wAt W c t)

theorem wAt_self (i : Fin 32) : wAt W c i.val i = wB c i := by
  unfold wAt; rw [if_neg (Nat.lt_irrefl _), if_pos (Nat.lt_add_of_pos_right (by decide))]
theorem wAt_done (i : Fin 32) : wAt W c (i.val + 1) i = wD W c i := if_pos (Nat.lt_succ_self _)
theorem wAt_other (i b : Fin 32) (h : b ≠ i) (h' : b.val ≠ i.val + 10) : wAt W c (i.val + 1) b = wAt W c i.val b := by
  have hv : b.val ≠ i.val := fun e => h (Fin.ext e)
  unfold wAt
  by_cases h1 : b.val < i.val
  · rw [if_pos h1, if_pos (by omega)]
  · rw [if_neg h1, if_neg (by omega)]
    by_cases h2 : b.val < i.val + 10
    · rw [if_pos h2, if_pos (by omega)]
    · rw [if_neg h2, if_neg (by omega)]

section
variable (i i' : Fin 32) (h : i'.val = i.val + 10)
include h
theorem wAt_next : wAt W c i.val i' = wA W c i' := by unfold wAt; rw [if_neg (by omega), if_neg (by omega)]
theorem wAt_next' : wAt W c (i.val + 1) i' = wB c i' := by unfold wAt; rw [if_neg (by omega), if_pos (by omega)]
theorem sOf_next : sOf i' = sOf i := Fin.ext (by show i'.val % 10 = i.val % 10; omega)
theorem rOf_next : rOf i' = rOf i + 1 := by show i'.val / 10 = i.val / 10 + 1; omega
theorem next_ne : i' ≠ i := fun e => by rw [e] at h; omega

theorem WS_mid : WS W c i.val = iprop(wB c i ∗ wA W c i' ∗ bigSep ((Finset.univ.erase i).erase i') (wAt W c i.val)) := by
  unfold WS
  rw [bigSep_univ_split i, bigSep_erase (i := i') (Finset.mem_erase.mpr ⟨next_ne i i' h, Finset.mem_univ _⟩), wAt_self, wAt_next W c i i' h]
  rfl
theorem WS_mid' : WS W c (i.val + 1) = iprop(wD W c i ∗ wB c i' ∗ bigSep ((Finset.univ.erase i).erase i') (wAt W c i.val)) := by
  unfold WS
  rw [bigSep_univ_split i, bigSep_erase (i := i') (Finset.mem_erase.mpr ⟨next_ne i i' h, Finset.mem_univ _⟩), wAt_done, wAt_next' W c i i' h]
  have e : bigSep ((Finset.univ.erase i).erase i') (wAt W c (i.val + 1)) = bigSep ((Finset.univ.erase i).erase i') (wAt W c i.val) :=
    bigSep_congr fun b hb => wAt_other W c i b (Finset.mem_erase.mp (Finset.mem_erase.mp hb).2).1
      (fun e => (Finset.mem_erase.mp hb).1 (Fin.ext (by omega)))
  rw [e]; rfl
end

theorem WS_last (i : Fin 32) : WS W c i.val = iprop(wB c i ∗ bigSep (Finset.univ.erase i) (wAt W c i.val)) := by
  unfold WS; rw [bigSep_univ_split i, wAt_self]; rfl
theorem WS_last' (i : Fin 32) (h : ¬ i.val + 10 < 32) : WS W c (i.val + 1) = iprop(wD W c i ∗ bigSep (Finset.univ.erase i) (wAt W c i.val)) := by
  unfold WS
  rw [bigSep_univ_split i, wAt_done]
  have e : bigSep (Finset.univ.erase i) (wAt W c (i.val + 1)) = bigSep (Finset.univ.erase i) (wAt W c i.val) :=
    bigSep_congr fun b hb => wAt_other W c i b (Finset.mem_erase.mp hb).1 (fun e => h (e ▸ b.isLt))
  rw [e]; rfl

/-- What the waits for the panel of step `i` leave besides the panel. -/
def wR (i : Fin 32) (q : Fin 4) : sProp 𝕄 :=
  iprop(atPos ER (kcell c (.w (sOf i) q)) (rOf i + 1) ∅ 0 ∗ reached ER (kcell c (.w (sOf i) q)) (rOf i + 1) ∗ wPts c i q (W c))

theorem wp_panel {Q : PUnit → sProp 𝕄} (hO : Above 0 O) (i : Fin 32) (k : PG F) :
    iprop(Rec X W A K ∗ wB c i ∗ Ow c O)
      ⊢ iprop(((bigSep Finset.univ fun q : Fin 4 => bPts c (sOf i) q (WB W c i)) ∗ (bigSep Finset.univ (wR W c i)) ∗ Ow c O -∗ WP c k Q)
        -∗ WP c (each (List.finRange 4) (wWait c i) k) Q) := by
  iintro ⟨#HR, Hw, HO⟩ HK
  unfold wB
  iapply (each_fam c Q (Rec X W A K) (wWait c i) _ (fun q : Fin 4 => iprop(bPts c (sOf i) q (WB W c i) ∗ wR W c i q)) (fun _ => Ow c O)
    (fun q k => ?_) k) $$ [Hw HO]
  rotate_left
  · isplitr; · iexact HR
    isplitl [Hw]; · iexact Hw
    iexact HO
  · rw [bigSep_sep']
    iintro ⟨⟨Hb, Hr⟩, HO⟩
    iapply HK
    isplitl [Hb]; · iexact Hb
    isplitl [Hr]; · iexact Hr
    iexact HO
  · unfold wR
    iintro ⟨#HR, ⟨Hc, Hat⟩, HO⟩ HK
    iapply (wp_wWait X W A K c hO i q k) $$ [Hc Hat HO]
    · isplitr; · iexact HR
      isplitl [Hc]; · iexact Hc
      isplitl [HO]; · iexact HO
      iexact Hat
    iintro ⟨HO, Hat, Hre, Hb, Hw⟩
    iapply HK
    isplitr [HO]
    · isplitl [Hb]; · iexact Hb
      isplitl [Hat]; · iexact Hat
      isplitl [Hre]; · iexact Hre
      iexact Hw
    iexact HO

/-- The copy that reuses the panel of step `i`. -/
theorem wp_reuse {Q : PUnit → sProp 𝕄} (i i' : Fin 32) (h : i'.val = i.val + 10) (k : PG F) :
    iprop(Rec X W A K ∗ (bigSep Finset.univ fun q : Fin 4 => bPts c (sOf i) q (WB W c i)) ∗ (bigSep Finset.univ (wR W c i)) ∗ wA W c i')
      ⊢ iprop((wD W c i ∗ wB c i' -∗ WP c k Q) -∗ WP c (each (List.finRange 4) (wStart c i') k) Q) := by
  iintro ⟨#HR, Hb, Hr, Ha⟩ HK
  iapply (each_fam c Q (Rec X W A K) (wStart c i') (fun q : Fin 4 => iprop(bPts c (sOf i) q (WB W c i) ∗ wR W c i q
      ∗ dutyTok ER (kcell c (.w (sOf i') q)) (rOf i') 0 ∗ wPts c i' q (W c)))
    (fun q : Fin 4 => iprop((wPts c i q (W c) ∗ wFree c i q)
      ∗ cred (tallyAt (kcell c (.w (sOf i') q)) () Nw) ∗ atPos ER (kcell c (.w (sOf i') q)) (rOf i') ∅ 0)) (fun _ => iprop(emp)) (fun q k => ?_) k) $$ [Hb Hr Ha]
  rotate_left
  · isplitr; · iexact HR
    isplitl
    · rw [bigSep_sep', bigSep_sep']
      isplitl [Hb]; · iexact Hb
      isplitl [Hr]; · iexact Hr
      unfold wA; iexact Ha
    · iempintro
  · rw [bigSep_sep']
    iintro ⟨⟨Hd, Hb⟩, -⟩
    iapply HK
    isplitl [Hd]; · unfold wD; iexact Hd
    unfold wB; iexact Hb
  · unfold wR wFree
    rw [sOf_next i i' h, rOf_next i i' h, if_pos (by have := i'.isLt; omega)]
    have hs := wp_wStart X W A K c (Q := Q) i' q (WB W c i) k
    rw [sOf_next i i' h, rOf_next i i' h] at hs
    iintro ⟨#HR, ⟨Hb, ⟨Hat, Hre, Hw⟩, Ht, Hw'⟩, -⟩ HK
    iapply hs $$ [Hb Hre Ht Hw']
    · isplitr; · iexact HR
      isplitl [Hb]; · iexact Hb
      isplitl [Hw']; · iexact Hw'
      isplitl [Ht]; · iexact Ht
      iexact Hre
    iintro Hc
    iapply HK
    isplitl
    · isplitl [Hw]
      · isplitl [Hw]; · iexact Hw
        iempintro
      isplitl [Hc]; · iexact Hc
      iexact Hat
    · iempintro

theorem wD_last (i : Fin 32) (h : ¬ i.val + 10 < 32) :
    iprop((bigSep Finset.univ fun q : Fin 4 => bPts c (sOf i) q (WB W c i)) ∗ bigSep Finset.univ (wR W c i)) ⊢ wD W c i := by
  have hq (q : Fin 4) : iprop(bPts c (sOf i) q (WB W c i) ∗ wR W c i q) ⊢ iprop(wPts c i q (W c) ∗ wFree c i q) := by
    unfold wR wFree
    rw [if_neg h]
    iintro ⟨Hb, Hat, -, Hw⟩
    isplitl [Hw]; · iexact Hw
    isplitl [Hb]; · iexists _; iexact Hb
    iexact Hat
  exact (Entails.of_eq (bigSep_sep' Finset.univ _ _).symm).trans (bigSep_mono fun q _ => hq q)

/-! ## One step -/

/-- The state before step `t`. -/
def St (t : ℕ) : sProp 𝕄 := iprop(WS W c t ∗ GS X c t ∗ OS X W c t ∗ Ow c O)

theorem wp_step {Q : PUnit → sProp 𝕄} (hO : Above 2 O) (i : Fin 32) (k : FVec F S128x2048 .f32 → PG F) :
    iprop(Rec X W A K ∗ St X W c O i.val) ⊢ iprop((St X W c O (i.val + 1) -∗ WP c (k (blk X W c i)) Q) -∗ WP c (step c i k) Q) := by
  unfold St step
  rw [waits_eq]
  by_cases h : i.val + 10 < 32
  · rw [WS_mid W c i ⟨i.val + 10, h⟩ rfl, WS_mid' W c i ⟨i.val + 10, h⟩ rfl]
    iintro ⟨#HR, ⟨Hw, Ha, Hrest⟩, Hg, Ho, HO⟩ HK
    iapply (wp_gWaits X W A K c O hO i _) $$ [Hg HO]
    · isplitr; · iexact HR
      isplitl [Hg]; · iexact Hg
      iexact HO
    iintro ⟨Hg, HO⟩
    iapply (wp_panel X W A K c O (hO.mono (Nat.zero_le _)) i _) $$ [Hw HO]
    · isplitr; · iexact HR
      isplitl [Hw]; · iexact Hw
      iexact HO
    iintro ⟨Hb, Hr, HO⟩
    iapply (wp_group X c i _) $$ Hg
    iintro Hg
    iapply (wp_ldB W c i _) $$ Hb
    iintro Hb
    iapply (wp_compute X W c i k) $$ Ho
    iintro Ho
    unfold refill
    rw [dif_pos h]
    iapply (wp_reuse X W A K c i ⟨i.val + 10, h⟩ rfl _) $$ [Hb Hr Ha]
    · isplitr; · iexact HR
      isplitl [Hb]; · iexact Hb
      isplitl [Hr]; · iexact Hr
      iexact Ha
    iintro ⟨Hd, Hb⟩
    iapply HK
    isplitl [Hd Hb Hrest]
    · isplitl [Hd]; · iexact Hd
      isplitl [Hb]; · iexact Hb
      iexact Hrest
    isplitl [Hg]; · iexact Hg
    isplitl [Ho]; · iexact Ho
    iexact HO
  · rw [WS_last, WS_last' W c i h]
    iintro ⟨#HR, ⟨Hw, Hrest⟩, Hg, Ho, HO⟩ HK
    iapply (wp_gWaits X W A K c O hO i _) $$ [Hg HO]
    · isplitr; · iexact HR
      isplitl [Hg]; · iexact Hg
      iexact HO
    iintro ⟨Hg, HO⟩
    iapply (wp_panel X W A K c O (hO.mono (Nat.zero_le _)) i _) $$ [Hw HO]
    · isplitr; · iexact HR
      isplitl [Hw]; · iexact Hw
      iexact HO
    iintro ⟨Hb, Hr, HO⟩
    iapply (wp_group X c i _) $$ Hg
    iintro Hg
    iapply (wp_ldB W c i _) $$ Hb
    iintro Hb
    iapply (wp_compute X W c i k) $$ Ho
    iintro Ho
    unfold refill
    rw [dif_neg h]
    iapply HK
    isplitl [Hb Hr Hrest]
    · isplitl [Hb Hr]
      · iapply (wD_last W c i h)
        isplitl [Hb]; · iexact Hb
        iexact Hr
      iexact Hrest
    isplitl [Hg]; · iexact Hg
    isplitl [Ho]; · iexact Ho
    iexact HO

end Cert.KernelIdeal.Own

end
-- ==== Proof.Pieces.lean ====
/-
  The buffers cut into the pieces that the copies move, and the phases of the body before and after the steps.
-/
module

public import proofs.«01_k».proof.Proof.Slabs

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x128.Idx → Elt F .f32) (W : Dev nD → S4096x8192.Idx → Elt F .f32) (A : Dev nD → Elt F .f32)
variable (K : Dev nD × Kd → ℕ) (c : Dev nD) (O : CellTallies nD τ sig Unit)

/-! ## Families over all the devices, or all the slots -/

theorem around {T : Type} [Fintype T] [DecidableEq T] (a : T) (f : Fin 31 → T) (hf : Function.Injective f) (hne : ∀ j, f j ≠ a)
    (hs : ∀ b, b ≠ a → ∃ j, f j = b) (Φ : T → sProp 𝕄) :
    bigSep Finset.univ Φ = iprop(Φ a ∗ bigSep Finset.univ fun j : Fin 31 => Φ (f j)) := by
  have e : (Finset.univ.erase a : Finset T) = Finset.univ.map ⟨f, hf⟩ := by
    ext b
    rw [Finset.mem_erase, Finset.mem_map]
    constructor
    · rintro ⟨h, -⟩
      obtain ⟨j, rfl⟩ := hs b h
      exact ⟨j, Finset.mem_univ _, rfl⟩
    · rintro ⟨j, -, rfl⟩
      exact ⟨hne j, Finset.mem_univ _⟩
  rw [bigSep_univ_split a, e, bigSep_map]
  rfl

theorem around_dev (Φ : Dev nD → sProp 𝕄) :
    bigSep Finset.univ Φ = iprop(Φ c ∗ bigSep Finset.univ fun j : Fin 31 => Φ (fwd c j)) :=
  around c (fwd c) (fun j j' h => fwd_inj c h) (fwd_ne c) (fun b h => ne_fwd h) Φ

theorem around_slot (Φ : Fin 32 → sProp 𝕄) :
    bigSep Finset.univ Φ = iprop(Φ 0 ∗ bigSep Finset.univ fun j : Fin 31 => Φ (slotOf j)) :=
  around 0 slotOf (fun j j' h => Fin.ext (by have e : 1 + j.val = 1 + j'.val := congrArg Fin.val h; omega))
    (fun j h => absurd (congrArg Fin.val h) (Nat.pos_iff_ne_zero.mp (slotOf_pos j)))
    (fun b h => ⟨⟨b.val - 1, by have := b.isLt; omega⟩, Fin.ext (by
      have h0 : b.val ≠ 0 := fun e => h (Fin.ext e)
      show 1 + (b.val - 1) = b.val; omega)⟩) Φ

theorem cut {m n : ℕ} (Φ : Fin (m + n) → sProp 𝕄) :
    bigSep Finset.univ Φ = iprop((bigSep Finset.univ fun s : Fin m => Φ (Fin.castAdd n s)) ∗ bigSep Finset.univ fun t : Fin n => Φ (Fin.natAdd m t)) := by
  rw [bigSep_univ_equiv finSumFinEquiv, bigSep_univ_sum]
  rfl

/-! ## The buffers and their pieces -/

theorem cover_of {T I : Type} [Fintype T] [Fintype I] [DecidableEq I] (f : T → Finset I) (h : ∀ i, ∃ t, i ∈ f t) :
    (Finset.univ : Finset I) = Finset.univ.biUnion f :=
  (Finset.eq_univ_iff_forall.mpr fun i => by
    obtain ⟨t, ht⟩ := h i
    exact Finset.mem_biUnion.mpr ⟨t, Finset.mem_univ _, ht⟩).symm

theorem gAll (f : S128x4096.Idx → Elt F .f32) :
    (gM.view.loc (c : Thread nD τ) ↦{fullShare} f : sProp 𝕄) = bigSep Finset.univ fun t : Fin 32 => gPts c t f := by
  have e : (Finset.univ : Finset S128x4096.Idx) = Finset.univ.biUnion fun t : Fin 32 => (gSlot t).view.set := cover_of _ fun i => by
    have h : (i 1).val < 4096 := (i 1).isLt
    have hlt : (i 1).val / 128 < 32 := by omega
    have h' : 128 * ((i 1).val / 128) ≤ (i 1).val ∧ (i 1).val < 128 * ((i 1).val / 128) + 128 := by omega
    exact ⟨⟨(i 1).val / 128, hlt⟩, (mem_gSlot ⟨(i 1).val / 128, hlt⟩ i).mpr h'⟩
  have h := pointsTo_biUnion (ℓ := gM.view.loc (c : Thread nD τ)) (q := fullShare) (f := f) (Ix := Unit) (Name := ℕ) (U := UU) (Lvl := ℕ) Finset.univ (fun t : Fin 32 => (gSlot t).view.set)
    (fun t _ t' _ h => gSlot_disj t t' h)
  exact (congrArg (fun S => (gM.view.loc (c : Thread nD τ) ↦[S]{fullShare} f : sProp 𝕄)) e).trans h

theorem aAll (f : S32x8x128.Idx → Elt F .f32) :
    (aM.view.loc (c : Thread nD τ) ↦{fullShare} f : sProp 𝕄) = bigSep Finset.univ fun t : Dev nD => aPts c fullShare t f := by
  have e : (Finset.univ : Finset S32x8x128.Idx) = Finset.univ.biUnion fun t : Dev nD => (aMe t).view.set :=
    cover_of _ fun i => ⟨⟨(i 0).val, (i 0).isLt⟩, (mem_aMe ⟨(i 0).val, (i 0).isLt⟩ i).mpr rfl⟩
  have h := pointsTo_biUnion (ℓ := aM.view.loc (c : Thread nD τ)) (q := fullShare) (f := f) (Ix := Unit) (Name := ℕ) (U := UU) (Lvl := ℕ) Finset.univ (fun t : Dev nD => (aMe t).view.set)
    (fun t _ t' _ h => aMe_disj t t' h)
  exact (congrArg (fun S => (aM.view.loc (c : Thread nD τ) ↦[S]{fullShare} f : sProp 𝕄)) e).trans h

theorem bCover : (Finset.univ : Finset S10x512x2048.Idx) = Finset.univ.biUnion fun p : Fin 10 × Fin 4 => (bPart p.1 p.2).view.set := cover_of _ fun i => by
  have h : (i 1).val < 512 := (i 1).isLt
  have hlt : (i 1).val / 128 < 4 := by omega
  have h' : (i 0).val = (i 0).val ∧ 128 * ((i 1).val / 128) ≤ (i 1).val ∧ (i 1).val < 128 * ((i 1).val / 128) + 128 := by omega
  exact ⟨(⟨(i 0).val, (i 0).isLt⟩, ⟨(i 1).val / 128, hlt⟩), (mem_bPart ⟨(i 0).val, (i 0).isLt⟩ ⟨(i 1).val / 128, hlt⟩ i).mpr h'⟩

theorem wCover : (Finset.univ : Finset S4096x8192.Idx) = Finset.univ.biUnion fun p : Fin 32 × Fin 4 => (wPart c p.1 p.2).view.set := cover_of _ fun x => by
  have h0 : (x 0).val < 4096 := (x 0).isLt
  have h1 : (x 1).val < 8192 := (x 1).isLt
  have hd := dev_lt c
  obtain ⟨m, hm⟩ : ∃ m, m = ((x 0).val / 128 + 32 - c.val) % 32 := ⟨_, rfl⟩
  have hlt : 4 * (m / 4) + (x 1).val / 2048 < 32 := by omega
  have hq : m % 4 < 4 := by omega
  refine ⟨(⟨4 * (m / 4) + (x 1).val / 2048, hlt⟩, ⟨m % 4, hq⟩), (mem_wPart c ⟨4 * (m / 4) + (x 1).val / 2048, hlt⟩ ⟨m % 4, hq⟩ x).mpr ?_⟩
  show (128 * ((c.val + 4 * ((4 * (m / 4) + (x 1).val / 2048) / 4) + m % 4) % 32) ≤ (x 0).val ∧
      (x 0).val < 128 * ((c.val + 4 * ((4 * (m / 4) + (x 1).val / 2048) / 4) + m % 4) % 32) + 128) ∧
    2048 * ((4 * (m / 4) + (x 1).val / 2048) % 4) ≤ (x 1).val ∧ (x 1).val < 2048 * ((4 * (m / 4) + (x 1).val / 2048) % 4) + 2048
  omega

theorem bAll (f : S10x512x2048.Idx → Elt F .f32) :
    (bM.view.loc (c : Thread nD τ) ↦{fullShare} f : sProp 𝕄) = bigSep Finset.univ fun s : Fin 10 => bigSep Finset.univ fun q : Fin 4 => bPts c s q f := by
  have h := pointsTo_biUnion (ℓ := bM.view.loc (c : Thread nD τ)) (q := fullShare) (f := f) (Ix := Unit) (Name := ℕ) (U := UU) (Lvl := ℕ) Finset.univ (fun p : Fin 10 × Fin 4 => (bPart p.1 p.2).view.set)
    (fun t _ t' _ h => bPart_disj t t' h)
  exact ((congrArg (fun S => (bM.view.loc (c : Thread nD τ) ↦[S]{fullShare} f : sProp 𝕄)) bCover).trans h).trans (bigSep_univ_prod _)

theorem bJoin : (bigSep Finset.univ fun s : Fin 10 => bigSep Finset.univ fun q : Fin 4 => iprop(∃ f, bPts c s q f))
    ⊢ (iprop(∃ f, bM.view.loc (c : Thread nD τ) ↦{fullShare} f) : sProp 𝕄) := by
  rw [← bigSep_univ_prod fun p : Fin 10 × Fin 4 => (iprop(∃ f, bPts c p.1 p.2 f) : sProp 𝕄)]
  haveI : Nonempty (S10x512x2048.Idx → Elt F .f32) := ⟨fun _ => (Scalar.ofBits .f32 0#32 : F .f32)⟩
  iintro H
  ihave H' := (bigSep_exists_pi (Finset.univ : Finset (Fin 10 × Fin 4)) fun (p : Fin 10 × Fin 4) (f : S10x512x2048.Idx → Elt F .f32) => (bPts c p.1 p.2 f : sProp 𝕄)) $$ H
  icases H' with ⟨%fs, H⟩
  have h := pointsTo_biUnion_join (ℓ := bM.view.loc (c : Thread nD τ)) (q := fullShare) (Ix := Unit) (Name := ℕ) (U := UU) (Lvl := ℕ) Finset.univ (fun p : Fin 10 × Fin 4 => (bPart p.1 p.2).view.set)
    fs (fs (0, 0)) (fun t _ t' _ h => bPart_disj t t' h)
  simp only [bPts]
  ihave H' := h $$ H
  icases H' with ⟨%g, -, H'⟩
  iexists g
  rw [← bCover]
  iexact H'

theorem wAll (f : S4096x8192.Idx → Elt F .f32) :
    (wM.view.loc (c : Thread nD τ) ↦{fullShare} f : sProp 𝕄) = bigSep Finset.univ fun i : Fin 32 => bigSep Finset.univ fun q : Fin 4 => wPts c i q f := by
  have e : (Finset.univ : Finset S4096x8192.Idx) = Finset.univ.biUnion fun p : Fin 32 × Fin 4 => (wPart c p.1 p.2).view.set := wCover c
  have h := pointsTo_biUnion (ℓ := wM.view.loc (c : Thread nD τ)) (q := fullShare) (f := f) (Ix := Unit) (Name := ℕ) (U := UU) (Lvl := ℕ) Finset.univ (fun p : Fin 32 × Fin 4 => (wPart c p.1 p.2).view.set)
    (fun t _ t' _ h => wPart_disj c t t' h)
  exact ((congrArg (fun S => (wM.view.loc (c : Thread nD τ) ↦[S]{fullShare} f : sProp 𝕄)) e).trans h).trans (bigSep_univ_prod _)

/-- The rows of the staged `x` that no copy sends. -/
def xRest (f : S4096x128.Idx → Elt F .f32) : sProp 𝕄 :=
  xM.view.loc (c : Thread nD τ) ↦[(Finset.univ : Finset S4096x128.Idx) \ Finset.univ.biUnion fun j : Fin 31 => (xRows c j).view.set]{fullShare} f

theorem xAll (f : S4096x128.Idx → Elt F .f32) :
    (xM.view.loc (c : Thread nD τ) ↦{fullShare} f : sProp 𝕄) ⊣⊢ iprop((bigSep Finset.univ fun j : Fin 31 => xPts c j f) ∗ xRest c f) := by
  have h := pointsTo_biUnion (ℓ := xM.view.loc (c : Thread nD τ)) (q := fullShare) (f := f) (Ix := Unit) (Name := ℕ) (U := UU) (Lvl := ℕ) Finset.univ (fun j : Fin 31 => (xRows c j).view.set)
    (fun t _ t' _ h => xRows_disj c t t' h)
  have e : (bigSep Finset.univ fun j : Fin 31 => (xPts c j f : sProp 𝕄))
      = (xM.view.loc (c : Thread nD τ) ↦[Finset.univ.biUnion fun j : Fin 31 => (xRows c j).view.set]{fullShare} f) := h.symm
  rw [e]
  exact pointsTo_split_subset (Finset.subset_univ _)

end Cert.KernelIdeal.Own

end
-- ==== Proof.Phases.lean ====
/-
  The phases of the body before and after the steps.
-/
module

public import proofs.«01_k».proof.Proof.Pieces

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x128.Idx → Elt F .f32) (W : Dev nD → S4096x8192.Idx → Elt F .f32) (A : Dev nD → Elt F .f32)
variable (K : Dev nD × Kd → ℕ) (c : Dev nD) (O : CellTallies nD τ sig Unit)

def xPtsAll (f : S4096x128.Idx → Elt F .f32) : sProp 𝕄 := xM.view.loc (c : Thread nD τ) ↦{fullShare} f
def aPtsAll (f : S32x8x128.Idx → Elt F .f32) : sProp 𝕄 := aM.view.loc (c : Thread nD τ) ↦{fullShare} f

/-! ## This device's own rows -/

abbrev xOwn : Rect S4096x128 := Rect.unit (s := S4096x128) (k0_off1 c) S128x128.size (k0_off1_inb c)
abbrev gOwn : Rect S128x4096 := Rect.unit (s := S128x4096) ![0, 0] S128x128.size inb_S128x4096_S128x128_0_0

theorem gOwn_set : (gM.access gOwn).set = (gSlot 0).view.set := rfl

theorem own_written (f : S128x4096.Idx → Elt F .f32) :
    (gM.view.loc (c : Thread nD τ) ↦[(gSlot 0).view.set]{fullShare}
        ((gM.access gOwn).write (Elt F) f (k0_pay2 (xM.view.readAt (Elt F) (xOwn c).toLoadRect (X c))) Finset.univ) : sProp 𝕄)
      = gPts c 0 (XG X c) := by
  unfold gPts
  exact pointsTo_congr (write_of_read (gSlot 0).view (XG X c) f _ (XG_own X c))

theorem wp_own {Q : PUnit → sProp 𝕄} (f : S128x4096.Idx → Elt F .f32) (k : PG F) :
    iprop(xPtsAll c (X c) ∗ gPts c 0 f) ⊢ iprop((xPtsAll c (X c) ∗ gPts c 0 (XG X c) -∗ WP c k Q) -∗ WP c (own c k) Q) := by
  rw [← own_written X c f]
  unfold own xPtsAll gPts
  iintro ⟨Hx, Hg⟩ HK
  iapply (wp_load 𝒱₀ (c : Thread nD τ) none Set.univ (m := xM) (S := Finset.univ) (Finset.subset_univ _)) $$ Hx
  iintro Hx
  iapply (wp_load_rect 𝒱₀ (c : Thread nD τ) none Set.univ (m := gM) (r := gOwn) (S := (gSlot 0).view.set) (le_of_eq gOwn_set)) $$ Hg
  iintro Hg
  iapply (wp_store 𝒱₀ (c : Thread nD τ) none Set.univ (m := gM) (r := gOwn) (Mk := Finset.univ) (S := (gSlot 0).view.set) (le_of_eq gOwn_set)) $$ Hg
  iintro Hg
  iapply HK
  isplitl [Hx]; · iexact Hx
  iexact Hg

/-! ## The first ten panels -/

/-- The panel that step `s` below 10 uses is panel `s`, in its first round. -/
theorem sOf_first (s : Fin 10) : sOf (Fin.castAdd 22 s) = s := Fin.ext (Nat.mod_eq_of_lt s.isLt)
theorem rOf_first (s : Fin 10) : rOf (Fin.castAdd 22 s) = 0 := Nat.div_eq_of_lt s.isLt

theorem wp_first {Q : PUnit → sProp 𝕄} (s : Fin 10) (k : PG F) :
    iprop(Rec X W A K ∗ (wA W c (Fin.castAdd 22 s) ∗ (bigSep Finset.univ fun q : Fin 4 => iprop(∃ f, bPts c s q f))
        ∗ bigSep Finset.univ fun q : Fin 4 => atPos ER (kcell c (.w s q)) 0 ∅ 0) ∗ emp)
      ⊢ iprop((wB c (Fin.castAdd 22 s) ∗ emp -∗ WP c k Q) -∗ WP c (each (List.finRange 4) (wStart c (Fin.castAdd 22 s)) k) Q) := by
  have hb : (iprop((bigSep Finset.univ fun q : Fin 4 => iprop(∃ f, bPts c s q f)) ∗ bigSep Finset.univ fun q : Fin 4 => atPos ER (kcell c (.w s q)) 0 ∅ 0) : sProp 𝕄)
      = bigSep Finset.univ fun q : Fin 4 => iprop((∃ f, bPts c s q f) ∗ atPos ER (kcell c (.w s q)) 0 ∅ 0) := (bigSep_sep' ..).symm
  rw [hb]
  unfold wA wB
  iintro ⟨#HR, ⟨Ha, Hb⟩, -⟩ HK
  iapply (each_fam c Q (Rec X W A K) (wStart c (Fin.castAdd 22 s))
    (fun q : Fin 4 => iprop((dutyTok ER (kcell c (.w (sOf (Fin.castAdd 22 s)) q)) (rOf (Fin.castAdd 22 s)) 0 ∗ wPts c (Fin.castAdd 22 s) q (W c))
      ∗ (∃ f, bPts c s q f) ∗ atPos ER (kcell c (.w s q)) 0 ∅ 0))
    (fun q : Fin 4 => iprop(cred (tallyAt (kcell c (.w (sOf (Fin.castAdd 22 s)) q)) () Nw) ∗ atPos ER (kcell c (.w (sOf (Fin.castAdd 22 s)) q)) (rOf (Fin.castAdd 22 s)) ∅ 0))
    (fun _ => iprop(emp)) (fun q k => ?_) k) $$ [Ha Hb]
  rotate_left
  · isplitr; · iexact HR
    isplitl
    · iapply (Entails.of_eq (bigSep_sep' Finset.univ (fun q : Fin 4 => iprop(dutyTok ER (kcell c (.w (sOf (Fin.castAdd 22 s)) q)) (rOf (Fin.castAdd 22 s)) 0 ∗ wPts c (Fin.castAdd 22 s) q (W c)))
        (fun q : Fin 4 => iprop((∃ f, bPts c s q f) ∗ atPos ER (kcell c (.w s q)) 0 ∅ 0))).symm)
      isplitl [Ha]; · iexact Ha
      iexact Hb
    iempintro
  · iexact HK
  · have hs (f : S10x512x2048.Idx → Elt F .f32) := wp_wStart X W A K c (Q := Q) (Fin.castAdd 22 s) q f k
    rw [sOf_first, rOf_first] at hs ⊢
    iintro ⟨#HR, ⟨⟨Ht, Hw⟩, ⟨%f, Hb⟩, Hat⟩, -⟩ HK
    iapply (hs f) $$ [Ht Hw Hb]
    · isplitr; · iexact HR
      isplitl [Hb]; · iexact Hb
      isplitl [Hw]; · iexact Hw
      isplitl [Ht]; · iexact Ht
      iapply (rec_reached X W A K c (.w s q)); iexact HR
    iintro Hc
    iapply HK
    isplitl
    · isplitl [Hc]; · iexact Hc
      iexact Hat
    iempintro

theorem WS_zero : WS W c 0 = iprop((bigSep Finset.univ fun s : Fin 10 => wB c (Fin.castAdd 22 s)) ∗ bigSep Finset.univ fun t : Fin 22 => wA W c (Fin.natAdd 10 t)) := by
  refine (cut (m := 10) (n := 22) (wAt W c 0)).trans ?_
  have e1 (s : Fin 10) : wAt W c 0 (Fin.castAdd 22 s) = wB c (Fin.castAdd 22 s) := by
    unfold wAt; rw [if_neg (Nat.not_lt_zero _), if_pos (by show s.val < 0 + 10; have := s.isLt; omega)]
  have e2 (t : Fin 22) : wAt W c 0 (Fin.natAdd 10 t) = wA W c (Fin.natAdd 10 t) := by
    unfold wAt; rw [if_neg (Nat.not_lt_zero _), if_neg (by show ¬ 10 + t.val < 0 + 10; omega)]
  simp only [e1, e2]

theorem wp_prefetch {Q : PUnit → sProp 𝕄} (k : PG F) :
    iprop(Rec X W A K ∗ (bigSep Finset.univ fun i : Fin 32 => wA W c i)
        ∗ (bigSep Finset.univ fun s : Fin 10 => bigSep Finset.univ fun q : Fin 4 => iprop(∃ f, bPts c s q f))
        ∗ bigSep Finset.univ fun s : Fin 10 => bigSep Finset.univ fun q : Fin 4 => atPos ER (kcell c (.w s q)) 0 ∅ 0)
      ⊢ iprop((WS W c 0 -∗ WP c k Q) -∗
        WP c (each (List.finRange 10) (fun i k => each (List.finRange 4) (wStart c ⟨i.val, by have := i.isLt; omega⟩) k) k) Q) := by
  have hcut : (bigSep Finset.univ fun i : Fin 32 => wA W c i)
      = iprop((bigSep Finset.univ fun s : Fin 10 => wA W c (Fin.castAdd 22 s)) ∗ bigSep Finset.univ fun t : Fin 22 => wA W c (Fin.natAdd 10 t)) :=
    cut (m := 10) (n := 22) (wA W c)
  rw [WS_zero, hcut]
  iintro ⟨#HR, ⟨Ha, Ha'⟩, Hb, Hat⟩ HK
  iapply (each_fam c Q (Rec X W A K) (fun (i : Fin 10) k => each (List.finRange 4) (wStart c ⟨i.val, by have := i.isLt; omega⟩) k)
    (fun s : Fin 10 => iprop(wA W c (Fin.castAdd 22 s) ∗ (bigSep Finset.univ fun q : Fin 4 => iprop(∃ f, bPts c s q f))
        ∗ bigSep Finset.univ fun q : Fin 4 => atPos ER (kcell c (.w s q)) 0 ∅ 0))
    (fun s : Fin 10 => wB c (Fin.castAdd 22 s)) (fun _ => iprop(emp)) (fun s k => wp_first X W A K c s k) k) $$ [Ha Hb Hat]
  · isplitr; · iexact HR
    isplitl
    · rw [bigSep_sep', bigSep_sep']
      isplitl [Ha]; · iexact Ha
      isplitl [Hb]; · iexact Hb
      iexact Hat
    iempintro
  iintro ⟨Hb, -⟩
  iapply HK
  isplitl [Hb]; · iexact Hb
  iexact Ha'

/-! ## The barrier and the sending of the rows -/

theorem wp_signals {Q : PUnit → sProp 𝕄} (k : PG F) :
    iprop(Rec X W A K ∗ (bigSep Finset.univ fun j : Fin 31 => iprop(dutyTok ER (kcell (fwd c j) .bar) 0 j ∗ (∃ f, gPts c (slotOf j) f) ∗ ∃ f, aPts c fullShare (fwd c j) f))
        ∗ Ow c (O + owedBar c 0))
      ⊢ iprop((Ow c O -∗ WP c k Q) -∗ WP c (each (List.finRange 31) (sig1 c) k) Q) := by
  iintro ⟨#HR, H, HO⟩ HK
  iapply (each_fam c Q (Rec X W A K) (sig1 c) _ (fun _ => iprop(emp)) (fun t => Ow c (O + owedBar c t)) (fun j k => ?_) k) $$ [H HO]
  rotate_left
  · isplitr; · iexact HR
    isplitl [H]; · iexact H
    iexact HO
  · rw [owedBar_end, add_zero]
    iintro ⟨-, HO⟩
    iapply HK; iexact HO
  · rw [owedBar_succ, ← add_assoc]
    iintro ⟨#HR, ⟨Ht, Hg, Ha⟩, HO⟩ HK
    iapply (wp_sig1 X W A K c j k) $$ [Ht Hg Ha HO]
    · isplitr; · iexact HR
      isplitl [HO]; · iexact HO
      isplitl [Ht]; · iexact Ht
      isplitl [Hg]; · iexact Hg
      iexact Ha
    iintro HO
    iapply HK
    isplitr; · iempintro
    iexact HO

theorem wp_sends {Q : PUnit → sProp 𝕄} (k : PG F) :
    iprop(Rec X W A K ∗ (bigSep Finset.univ fun j : Fin 31 => iprop(xPts c j (X c) ∗ (∃ f, gPts (bwd c j) (slotOf j) f)
          ∗ dutyTok ER (kcell c (.xs j)) 0 0 ∗ dutyTok ER (kcell (bwd c j) (.xr j)) 0 0)) ∗ Ow c (O + owedX c 0))
      ⊢ iprop(((bigSep Finset.univ fun j : Fin 31 => cred (tallyAt (kcell c (.xs j)) () Nx)) ∗ Ow c O -∗ WP c k Q)
        -∗ WP c (each (List.finRange 31) (xSend c) k) Q) := by
  iintro ⟨#HR, H, HO⟩ HK
  iapply (each_fam c Q (Rec X W A K) (xSend c) _ (fun j => cred (tallyAt (kcell c (.xs j)) () Nx)) (fun t => Ow c (O + owedX c t)) (fun j k => ?_) k) $$ [H HO]
  rotate_left
  · isplitr; · iexact HR
    isplitl [H]; · iexact H
    iexact HO
  · rw [owedX_end, add_zero]
    iexact HK
  · rw [owedX_succ, ← add_assoc]
    iintro ⟨#HR, ⟨Hx, ⟨%f, Hg⟩, Ht, Ht'⟩, HO⟩ HK
    iapply (wp_xSend X W A K c j f k) $$ [Hx Hg Ht Ht' HO]
    · isplitr; · iexact HR
      isplitl [Hx]; · iexact Hx
      isplitl [Hg]; · iexact Hg
      isplitl [HO]; · iexact HO
      isplitl [Ht]; · iexact Ht
      iexact Ht'
    iexact HK

theorem wp_sents {Q : PUnit → sProp 𝕄} (hO : Above 0 O) (k : PG F) :
    iprop(Rec X W A K ∗ (bigSep Finset.univ fun j : Fin 31 => iprop(cred (tallyAt (kcell c (.xs j)) () Nx) ∗ atPos ER (kcell c (.xs j)) 0 ∅ 0)) ∗ Ow c O)
      ⊢ iprop(((bigSep Finset.univ fun j : Fin 31 => iprop(xPts c j (X c) ∗ atPos ER (kcell c (.xs j)) 1 ∅ 0)) ∗ Ow c O -∗ WP c k Q)
        -∗ WP c (each (List.finRange 31) (xSent c) k) Q) := by
  refine each_fam c Q (Rec X W A K) (xSent c) _ (fun j => iprop(xPts c j (X c) ∗ atPos ER (kcell c (.xs j)) 1 ∅ 0)) (fun t => Ow c O) (fun j k => ?_) k
  iintro ⟨#HR, ⟨Hc, Hat⟩, HO⟩ HK
  iapply (wp_xSent X W A K c hO j k) $$ [Hc Hat HO]
  · isplitr; · iexact HR
    isplitl [Hc]; · iexact Hc
    isplitl [HO]; · iexact HO
    iexact Hat
  iintro ⟨HO, Hat, -, Hx⟩
  iapply HK
  isplitr [HO]
  · isplitl [Hx]; · iexact Hx
    iexact Hat
  iexact HO

/-! ## The steps -/

theorem wp_steps28 {Q : PUnit → sProp 𝕄} (hO : Above 2 O) (k : PG F) :
    iprop(Rec X W A K ∗ St X W c O 0) ⊢ iprop((St X W c O 28 -∗ WP c k Q) -∗ WP c (steps28 c k) Q) :=
  each_nat c Q (Rec X W A K) (fun (i : Fin 28) k => step c ⟨i.val, by have := i.isLt; omega⟩ fun _ => k) (St X W c O)
    (fun i k => wp_step X W A K c O hO ⟨i.val, by have := i.isLt; omega⟩ fun _ => k) k

/-! ## The exchange of the maxima -/

theorem wp_tells {Q : PUnit → sProp 𝕄} (k : PG F) :
    iprop(Rec X W A K ∗ (bigSep Finset.univ fun j : Fin 31 => iprop(aPts c (lent j) c (AT A) ∗ (∃ f, aPts (fwd c j) fullShare c f)
          ∗ dutyTok ER (kcell c (.ts (fwd c j))) 0 0 ∗ dutyTok ER (kcell (fwd c j) (.tr c)) 0 0)) ∗ Ow c (owedA c 0))
      ⊢ iprop(((bigSep Finset.univ fun j : Fin 31 => cred (tallyAt (kcell c (.ts (fwd c j))) () Na)) ∗ Ow c 0 -∗ WP c k Q)
        -∗ WP c (each (List.finRange 31) (aSend c) k) Q) := by
  iintro ⟨#HR, H, HO⟩ HK
  iapply (each_fam c Q (Rec X W A K) (aSend c) _ (fun j => cred (tallyAt (kcell c (.ts (fwd c j))) () Na)) (fun t => Ow c (owedA c t)) (fun j k => ?_) k) $$ [H HO]
  rotate_left
  · isplitr; · iexact HR
    isplitl [H]; · iexact H
    iexact HO
  · rw [owedA_end]
    iexact HK
  · rw [owedA_succ]
    iintro ⟨#HR, ⟨Hx, ⟨%f, Hg⟩, Ht, Ht'⟩, HO⟩ HK
    iapply (wp_aSend X W A K c j f k) $$ [Hx Hg Ht Ht' HO]
    · isplitr; · iexact HR
      isplitl [Hx]; · iexact Hx
      isplitl [Hg]; · iexact Hg
      isplitl [HO]; · iexact HO
      isplitl [Ht]; · iexact Ht
      iexact Ht'
    iexact HK

theorem wp_hears {Q : PUnit → sProp 𝕄} (k : PG F) :
    iprop(Rec X W A K ∗ (bigSep Finset.univ fun j : Fin 31 => iprop(cred (tallyAt (kcell c (.tr (fwd c j))) () Na) ∗ atPos ER (kcell c (.tr (fwd c j))) 0 ∅ 0)) ∗ Ow c 0)
      ⊢ iprop(((bigSep Finset.univ fun j : Fin 31 => iprop(aPts c fullShare (fwd c j) (AT A) ∗ atPos ER (kcell c (.tr (fwd c j))) 1 ∅ 0)) ∗ Ow c 0 -∗ WP c k Q)
        -∗ WP c (each (List.finRange 31) (aRecv c) k) Q) := by
  refine each_fam c Q (Rec X W A K) (aRecv c) _ (fun j => iprop(aPts c fullShare (fwd c j) (AT A) ∗ atPos ER (kcell c (.tr (fwd c j))) 1 ∅ 0)) (fun t => Ow c 0) (fun j k => ?_) k
  iintro ⟨#HR, ⟨Hc, Hat⟩, HO⟩ HK
  iapply (wp_aRecv X W A K c (Above.zero 3) j k) $$ [Hc Hat HO]
  · isplitr; · iexact HR
    isplitl [Hc]; · iexact Hc
    isplitl [HO]; · iexact HO
    iexact Hat
  iintro ⟨HO, Hat, -, Hx⟩
  iapply HK
  isplitr [HO]
  · isplitl [Hx]; · iexact Hx
    iexact Hat
  iexact HO

theorem wp_tolds {Q : PUnit → sProp 𝕄} (k : PG F) :
    iprop(Rec X W A K ∗ (bigSep Finset.univ fun j : Fin 31 => iprop(cred (tallyAt (kcell c (.ts (fwd c j))) () Na) ∗ atPos ER (kcell c (.ts (fwd c j))) 0 ∅ 0)) ∗ Ow c 0)
      ⊢ iprop(((bigSep Finset.univ fun j : Fin 31 => iprop(aPts c (lent j) c (AT A) ∗ atPos ER (kcell c (.ts (fwd c j))) 1 ∅ 0)) ∗ Ow c 0 -∗ WP c k Q)
        -∗ WP c (each (List.finRange 31) (aSent c) k) Q) := by
  refine each_fam c Q (Rec X W A K) (aSent c) _ (fun j => iprop(aPts c (lent j) c (AT A) ∗ atPos ER (kcell c (.ts (fwd c j))) 1 ∅ 0)) (fun t => Ow c 0) (fun j k => ?_) k
  iintro ⟨#HR, ⟨Hc, Hat⟩, HO⟩ HK
  iapply (wp_aSent X W A K c (Above.zero 0) j k) $$ [Hc Hat HO]
  · isplitr; · iexact HR
    isplitl [Hc]; · iexact Hc
    isplitl [HO]; · iexact HO
    iexact Hat
  iintro ⟨HO, Hat, -, Hx⟩
  iapply HK
  isplitr [HO]
  · isplitl [Hx]; · iexact Hx
    iexact Hat
  iexact HO

end Cert.KernelIdeal.Own

end
-- ==== Proof.Ending.lean ====
/-
  The end of the body: the exchange of the maxima and the quantisation.
-/
module

public import proofs.«01_k».proof.Proof.Phases

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x128.Idx → Elt F .f32) (W : Dev nD → S4096x8192.Idx → Elt F .f32) (A : Dev nD → Elt F .f32)
variable (K : Dev nD × Kd → ℕ) (c : Dev nD) (O : CellTallies nD τ sig Unit)

/-! ## The exchange -/

/-- The largest absolute value of device `c`'s block of the product. -/
def rowMax : F .f32 :=
  Scalar.maximumf (Scalar.maximumf (bmax (blk X W c 28)) (bmax (blk X W c 29))) (Scalar.maximumf (bmax (blk X W c 30)) (bmax (blk X W c 31)))

abbrev aRow : Rect S32x8x128 := Rect.unit (s := S32x8x128) (k0_off7 c) S1x8x128.size (k0_off7_inb c)

theorem aRow_set : (aM.access (aRow c)).set = (aMe c).view.set := by
  ext x
  have h1 : (x 1).val < 8 := (x 1).isLt
  have h2 : (x 2).val < 128 := (x 2).isLt
  rw [mem_aMe, show (aM.access (aRow c)).set = (aRow c).set from View.set_slice_whole _ _, Rect.mem_set_unit, k0_off7_eq]
  constructor
  · intro h
    have h0 : c.val ≤ (x 0).val ∧ (x 0).val < c.val + 1 := h 0
    omega
  · intro h a
    match a with
    | ⟨0, _⟩ => show c.val ≤ (x 0).val ∧ (x 0).val < c.val + 1; omega
    | ⟨1, _⟩ => show 0 ≤ (x 1).val ∧ (x 1).val < 0 + 8; omega
    | ⟨2, _⟩ => show 0 ≤ (x 2).val ∧ (x 2).val < 0 + 128; omega

theorem aRow_read (a₀ a₁ a₂ a₃ : F .f32) (hA : A c = Scalar.maximumf (Scalar.maximumf a₀ a₁) (Scalar.maximumf a₂ a₃)) :
    (aM.access (aRow c)).read (Elt F) (AT A) = k0_pay48 a₀ a₁ a₂ a₃ := by
  unfold k0_pay48
  simp only [shapeCast_self]
  funext y
  refine Eq.trans ?_ hA
  show A ((aRow c).emb y 0) = A c
  refine congrArg A (Fin.ext ?_)
  refine (ValueKit.rect_emb_unit_val _ _ _ _ _).trans ((congrArg (fun o : Fin 3 → ℕ => o 0 + _) (k0_off7_eq c)).trans ?_)
  have h : (y 0).val < 1 := (y 0).isLt
  show c.val + (y 0).val = c.val
  omega

theorem aRow_written (a₀ a₁ a₂ a₃ : F .f32) (hA : A c = Scalar.maximumf (Scalar.maximumf a₀ a₁) (Scalar.maximumf a₂ a₃)) (f : S32x8x128.Idx → Elt F .f32) :
    (aM.view.loc (c : Thread nD τ) ↦[(aMe c).view.set]{fullShare} ((aM.access (aRow c)).write (Elt F) f (k0_pay48 a₀ a₁ a₂ a₃) Finset.univ) : sProp 𝕄)
      = aPts c fullShare c (AT A) := by
  unfold aPts
  refine pointsTo_congr fun i hi => ?_
  rw [← aRow_set] at hi
  exact write_of_read (aM.access (aRow c)) (AT A) f _ (aRow_read A c a₀ a₁ a₂ a₃ hA) i hi

theorem wp_exchange {Q : PUnit → sProp 𝕄} (a₀ a₁ a₂ a₃ : F .f32) (hA : A c = Scalar.maximumf (Scalar.maximumf a₀ a₁) (Scalar.maximumf a₂ a₃))
    (f : S32x8x128.Idx → Elt F .f32) (k : PG F) :
    iprop(Rec X W A K ∗ aPts c fullShare c f
        ∗ (bigSep Finset.univ fun j : Fin 31 => iprop((∃ f, aPts (fwd c j) fullShare c f) ∗ dutyTok ER (kcell c (.ts (fwd c j))) 0 0 ∗ dutyTok ER (kcell (fwd c j) (.tr c)) 0 0))
        ∗ (bigSep Finset.univ fun j : Fin 31 => iprop(cred (tallyAt (kcell c (.tr (fwd c j))) () Na) ∗ atPos ER (kcell c (.tr (fwd c j))) 0 ∅ 0))
        ∗ (bigSep Finset.univ fun j : Fin 31 => atPos ER (kcell c (.ts (fwd c j))) 0 ∅ 0)
        ∗ Ow c (owedA c 0))
      ⊢ iprop((aPtsAll c (AT A) ∗ (bigSep Finset.univ fun j : Fin 31 => atPos ER (kcell c (.tr (fwd c j))) 1 ∅ 0)
          ∗ (bigSep Finset.univ fun j : Fin 31 => atPos ER (kcell c (.ts (fwd c j))) 1 ∅ 0) ∗ Ow c 0 -∗ WP c k Q)
        -∗ WP c (exchange c a₀ a₁ a₂ a₃ k) Q) := by
  have hw := aRow_written A c a₀ a₁ a₂ a₃ hA f
  have hsplit : aPts c fullShare c (AT A) ⊢ iprop((aPts c (Transfers.shareDrop fullShare 31) c (AT A) : sProp 𝕄) ∗ bigSep Finset.univ fun j : Fin 31 => aPts c (lent j) c (AT A)) :=
    Transfers.pointsTo_toks_split fullShare 31
  have hjoin : iprop((aPts c (Transfers.shareDrop fullShare 31) c (AT A) : sProp 𝕄) ∗ bigSep Finset.univ fun j : Fin 31 => aPts c (lent j) c (AT A)) ⊢ aPts c fullShare c (AT A) :=
    Transfers.pointsTo_toks_join fullShare 31
  have hall : aPtsAll c (AT A) = iprop(aPts c fullShare c (AT A) ∗ bigSep Finset.univ fun j : Fin 31 => aPts c fullShare (fwd c j) (AT A)) :=
    (aAll c (AT A)).trans (around_dev c fun t => aPts c fullShare t (AT A))
  have hf : aPts c fullShare c f = (aM.view.loc (c : Thread nD τ) ↦[(aMe c).view.set]{fullShare} f : sProp 𝕄) := rfl
  rw [hall, hf]
  unfold exchange
  iintro ⟨#HR, Ha, Hs, Hr, Hp, HO⟩ HK
  iapply (wp_load_rect 𝒱₀ (c : Thread nD τ) none Set.univ (m := aM) (r := aRow c) (S := (aMe c).view.set) (q := fullShare) (f := f) (le_of_eq (aRow_set c))) $$ Ha
  iintro Ha
  iapply (wp_store 𝒱₀ (c : Thread nD τ) none Set.univ (m := aM) (r := aRow c) (Mk := Finset.univ) (S := (aMe c).view.set) (f := f) (le_of_eq (aRow_set c))) $$ Ha
  rw [hw]
  iintro Ha
  ihave Ha' := hsplit $$ Ha
  icases Ha' with ⟨Hd, Hl⟩
  iapply (wp_tells X W A K c) $$ [Hs Hl HO]
  · isplitr; · iexact HR
    isplitr [HO]
    · iapply (Entails.of_eq (bigSep_sep' Finset.univ (fun j : Fin 31 => aPts c (lent j) c (AT A))
        (fun j : Fin 31 => iprop((∃ f, aPts (fwd c j) fullShare c f) ∗ dutyTok ER (kcell c (.ts (fwd c j))) 0 0 ∗ dutyTok ER (kcell (fwd c j) (.tr c)) 0 0))).symm)
      isplitl [Hl]; · iexact Hl
      iexact Hs
    iexact HO
  iintro ⟨Hc, HO⟩
  iapply (wp_hears X W A K c) $$ [Hr HO]
  · isplitr; · iexact HR
    isplitl [Hr]; · iexact Hr
    iexact HO
  iintro ⟨Hr, HO⟩
  iapply (wp_tolds X W A K c) $$ [Hc Hp HO]
  · isplitr; · iexact HR
    isplitr [HO]
    · iapply (Entails.of_eq (bigSep_sep' Finset.univ (fun j : Fin 31 => (cred (tallyAt (kcell c (.ts (fwd c j))) () Na) : sProp 𝕄))
        (fun j : Fin 31 => atPos ER (kcell c (.ts (fwd c j))) 0 ∅ 0)).symm)
      isplitl [Hc]; · iexact Hc
      iexact Hp
    iexact HO
  iintro ⟨Hl, HO⟩
  ihave Hl' := (Entails.of_eq (bigSep_sep' Finset.univ (fun j : Fin 31 => aPts c (lent j) c (AT A)) (fun j : Fin 31 => atPos ER (kcell c (.ts (fwd c j))) 1 ∅ 0))) $$ Hl
  ihave Hr' := (Entails.of_eq (bigSep_sep' Finset.univ (fun j : Fin 31 => aPts c fullShare (fwd c j) (AT A)) (fun j : Fin 31 => atPos ER (kcell c (.tr (fwd c j))) 1 ∅ 0))) $$ Hr
  icases Hl' with ⟨Hl, Hp⟩
  icases Hr' with ⟨Ha, Hr⟩
  iapply HK
  isplitl [Hd Hl Ha]
  · isplitl [Hd Hl]
    · iapply hjoin
      isplitl [Hd]; · iexact Hd
      iexact Hl
    iexact Ha
  isplitl [Hr]; · iexact Hr
  isplitl [Hp]; · iexact Hp
  iexact HO

/-! ## The quantisation -/

/-- The step that finishes column block `g`. -/
def lastOf (g : Fin 4) : Fin 32 := ⟨28 + g.val, by have := g.isLt; omega⟩

/-- This device's block of the product. -/
def yV : S128x8192.Idx → Elt F .f32 := fun x =>
  blk X W c (lastOf ⟨(x 1).val / 2048, by have : (x 1).val < 8192 := (x 1).isLt; omega⟩) (ValueIdx.ix2 ⟨(x 0).val, (x 0).isLt⟩ ⟨(x 1).val % 2048, Nat.mod_lt _ (by decide)⟩)

theorem OHas_end (f : S128x8192.Idx → Elt F .f32) (h : OHas X W c 32 f) : f = yV X W c := by
  funext x
  obtain ⟨a, b, rfl⟩ : ∃ (a : Fin 128) (b : Fin 8192), x = ValueIdx.ix2 a b := ⟨_, _, ValueIdx.eq_ix2 x⟩
  have hb := b.isLt
  have hg : b.val / 2048 < 4 := by omega
  have h' := congrFun (h (lastOf ⟨b.val / 2048, hg⟩) (lastOf _).isLt (by show 32 ≤ 28 + b.val / 2048 + 4; omega))
    (ValueIdx.ix2 a ⟨b.val % 2048, Nat.mod_lt _ (by decide)⟩)
  refine Eq.trans ?_ h'
  show f _ = f ((oRect (cOf (lastOf ⟨b.val / 2048, hg⟩))).emb (ValueIdx.ix2 a ⟨b.val % 2048, Nat.mod_lt _ (by decide)⟩))
  refine congrArg f (funext fun ax => Fin.ext ?_)
  rw [ValueKit.rect_emb_unit_val]
  match ax with
  | ⟨0, _⟩ => exact (Nat.zero_add _).symm
  | ⟨1, _⟩ => show b.val = 2048 * ((28 + b.val / 2048) % 4) + b.val % 2048; omega

/-- What the device leaves in the staged result. -/
def outV : S128x8192.Idx → Elt F .f32 := k0_pay1 (k0_pay49 (AT A)) (k0_pay50 (AT A)) (yV X W c)

theorem hz2 : (![0, 0] : Fin 2 → Nat) = fun _ => 0 := funext fun a => by fin_cases a <;> rfl
theorem hz3 : (![0, 0, 0] : Fin 3 → Nat) = fun _ => 0 := funext fun a => by fin_cases a <;> rfl

abbrev oWhole : Rect S128x8192 := Rect.unit (s := S128x8192) ![0, 0] S128x8192.size inb_S128x8192_S128x8192_0_0
abbrev aWhole : Rect S32x8x128 := Rect.unit (s := S32x8x128) ![0, 0, 0] S32x8x128.size inb_S32x8x128_S32x8x128_0_0_0

theorem oWhole_read (f : S128x8192.Idx → Elt F .f32) : oM.view.readAt (Elt F) oWhole.toLoadRect f = f := Memref.readAt_unit_zero (Elt F) cc0_stg1_0 hz2 _ f
theorem aWhole_read (f : S32x8x128.Idx → Elt F .f32) : aM.view.readAt (Elt F) aWhole.toLoadRect f = f := Memref.readAt_unit_zero (Elt F) cc0_scratch1 hz3 _ f
theorem oWhole_write (f w : S128x8192.Idx → Elt F .f32) : (oM.access oWhole).write (Elt F) f w Finset.univ = w :=
  Memref.write_access_unit_zero_univ (Elt F) cc0_stg1_0 hz2 _ f w

theorem wp_finish {Q : PUnit → sProp 𝕄} (k : PG F) :
    iprop(aPtsAll c (AT A) ∗ oPts c (yV X W c)) ⊢ iprop((aPtsAll c (AT A) ∗ oPts c (outV X W A c) -∗ WP c k Q) -∗ WP c (finish k) Q) := by
  unfold finish aPtsAll oPts
  iintro ⟨Ha, Ho⟩ HK
  iapply (wp_load 𝒱₀ (c : Thread nD τ) none Set.univ (m := aM) (S := Finset.univ) (q := fullShare) (f := AT A) (Finset.subset_univ _)) $$ Ha
  rw [aWhole_read]
  iintro Ha
  iapply (wp_load 𝒱₀ (c : Thread nD τ) none Set.univ (m := oM) (S := Finset.univ) (q := fullShare) (f := yV X W c) (Finset.subset_univ _)) $$ Ho
  rw [oWhole_read]
  iintro Ho
  iapply (wp_load 𝒱₀ (c : Thread nD τ) none Set.univ (m := oM) (S := Finset.univ) (q := fullShare) (f := yV X W c) (Finset.subset_univ _)) $$ Ho
  iintro Ho
  iapply (wp_store 𝒱₀ (c : Thread nD τ) none Set.univ (m := oM) (r := oWhole) (Mk := Finset.univ) (S := Finset.univ) (f := yV X W c) (Finset.subset_univ _)) $$ Ho
  rw [oWhole_write]
  iintro Ho
  iapply HK
  isplitl [Ha]; · iexact Ha
  iexact Ho

end Cert.KernelIdeal.Own

end
-- ==== Proof.Body.lean ====
/-
  The whole body of the kernel on one device.
-/
module

public import proofs.«01_k».proof.Proof.Ending

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S4096x128.Idx → Elt F .f32) (W : Dev nD → S4096x8192.Idx → Elt F .f32) (A : Dev nD → Elt F .f32)
variable (K : Dev nD × Kd → ℕ) (c : Dev nD) (O : CellTallies nD τ sig Unit)

/-! ## Families sorted -/

/-- A family over the kinds of semaphores. -/
theorem kinds (Φ : Kd → sProp 𝕄) :
    bigSep Finset.univ Φ = iprop(Φ .bar ∗ (bigSep Finset.univ fun s : Fin 10 => bigSep Finset.univ fun q : Fin 4 => Φ (.w s q))
      ∗ (bigSep Finset.univ fun j : Fin 31 => Φ (.xs j)) ∗ (bigSep Finset.univ fun j : Fin 31 => Φ (.xr j))
      ∗ (Φ (.ts c) ∗ bigSep Finset.univ fun j : Fin 31 => Φ (.ts (fwd c j)))
      ∗ (Φ (.tr c) ∗ bigSep Finset.univ fun j : Fin 31 => Φ (.tr (fwd c j)))) := by
  rw [bigSep_univ_equiv kdEquiv, bigSep_univ_sum, bigSep_univ_sum, bigSep_univ_sum, bigSep_univ_sum, bigSep_univ_sum, bigSep_univ_prod]
  have h1 : (bigSep Finset.univ fun t : Fin 32 => Φ (.ts t)) = iprop(Φ (.ts c) ∗ bigSep Finset.univ fun j : Fin 31 => Φ (.ts (fwd c j))) :=
    around_dev c fun t => Φ (.ts t)
  have h2 : (bigSep Finset.univ fun t : Fin 32 => Φ (.tr t)) = iprop(Φ (.tr c) ∗ bigSep Finset.univ fun j : Fin 31 => Φ (.tr (fwd c j))) :=
    around_dev c fun t => Φ (.tr t)
  rw [← h1, ← h2]
  have h0 : (bigSep Finset.univ fun u : Unit => Φ (kdEquiv (.inl u))) = Φ .bar := by
    rw [show (Finset.univ : Finset Unit) = {()} from rfl, bigSep_singleton]; rfl
  rw [h0]
  rfl

/-- A family over the slots, by row groups. -/
theorem groups (Φ : Fin 32 → sProp 𝕄) :
    bigSep Finset.univ Φ = bigSep Finset.univ fun p : Fin 8 => bigSep Finset.univ fun q : Fin 4 => Φ (gGrp p q) := by
  have e : (Fin 8 × Fin 4) ≃ Fin 32 := finProdFinEquiv (m := 8) (n := 4)
  have h := bigSep_univ_equiv (finProdFinEquiv (m := 8) (n := 4)) Φ
  refine h.trans ((bigSep_univ_prod _).trans ?_)
  refine bigSep_congr fun p _ => bigSep_congr fun q _ => congrArg Φ (Fin.ext ?_)
  show q.val + 4 * p.val = 4 * p.val + q.val
  omega

/-- The panels by the last step that uses them. -/
def lastUse : Fin 10 ≃ Fin 10 where
  toFun t := sOf (Fin.natAdd 22 t)
  invFun s := ⟨(s.val + 8) % 10, Nat.mod_lt _ (by decide)⟩
  left_inv t := Fin.ext (by show ((22 + t.val) % 10 + 8) % 10 = t.val; have := t.isLt; omega)
  right_inv s := Fin.ext (by show (22 + (s.val + 8) % 10) % 10 = s.val; have := s.isLt; omega)

theorem kEnd_last (t : Fin 10) (q : Fin 4) : rOf (Fin.natAdd 22 t) + 1 = kEnd c (.w (lastUse t) q) := by
  show (22 + t.val) / 10 + 1 = if (22 + t.val) % 10 < 2 then 4 else 3
  have := t.isLt
  split <;> omega

/-! ## The states between the phases -/

theorem GS_start : iprop(gPts c 0 (XG X c) ∗ (bigSep Finset.univ fun j : Fin 31 => cred (tallyAt (kcell c (.xr j)) () Nx))
      ∗ bigSep Finset.univ fun j : Fin 31 => atPos ER (kcell c (.xr j)) 0 ∅ 0) ⊢ GS X c 0 := by
  have e : GS X c 0 = bigSep Finset.univ fun t : Fin 32 => SW X c t := (fam_zero _ _).trans (groups (SW X c)).symm
  have e' : (bigSep Finset.univ fun j : Fin 31 => SW X c (slotOf j)) = iprop((bigSep Finset.univ fun j : Fin 31 => cred (tallyAt (kcell c (.xr j)) () Nx))
      ∗ bigSep Finset.univ fun j : Fin 31 => atPos ER (kcell c (.xr j)) 0 ∅ 0) :=
    (bigSep_congr fun j _ => SW_slot X c j).trans (bigSep_sep' _ _ _)
  rw [e, around_slot, e', SW_zero]

theorem GS_end : GS X c 32 ⊢ iprop((gM.view.loc (c : Thread nD τ) ↦{fullShare} XG X c) ∗ bigSep Finset.univ fun j : Fin 31 => atPos ER (kcell c (.xr j)) 1 ∅ 0) := by
  have e : GS X c 32 = bigSep Finset.univ fun t : Fin 32 => SD X c t := (fam_end _ _).trans (groups (SD X c)).symm
  have e' : (bigSep Finset.univ fun t : Fin 32 => SD X c t) = iprop((bigSep Finset.univ fun t : Fin 32 => gPts c t (XG X c)) ∗ bigSep Finset.univ fun t : Fin 32 => SE c t) :=
    bigSep_sep' _ _ _
  have e'' : (bigSep Finset.univ fun j : Fin 31 => (SE c (slotOf j) : sProp 𝕄)) = bigSep Finset.univ fun j : Fin 31 => atPos ER (kcell c (.xr j)) 1 ∅ 0 :=
    bigSep_congr fun j _ => SE_slot c j
  rw [e, e', gAll, around_slot (fun t => SE c t), e'']
  iintro ⟨Hg, -, Hs⟩
  isplitl [Hg]; · iexact Hg
  iexact Hs

theorem wFree_late (t : Fin 10) (q : Fin 4) :
    wFree c (Fin.natAdd 22 t) q = (iprop((∃ f, bPts c (lastUse t) q f) ∗ atPos ER (kcell c (.w (lastUse t) q)) (kEnd c (.w (lastUse t) q)) ∅ 0) : sProp 𝕄) := by
  rw [← kEnd_last]
  exact if_neg (by show ¬ 22 + t.val + 10 < 32; omega)

theorem WS_end : WS W c 32 ⊢ iprop((wM.view.loc (c : Thread nD τ) ↦{fullShare} W c) ∗ (∃ f, bM.view.loc (c : Thread nD τ) ↦{fullShare} f)
      ∗ bigSep Finset.univ fun s : Fin 10 => bigSep Finset.univ fun q : Fin 4 => atPos ER (kcell c (.w s q)) (kEnd c (.w s q)) ∅ 0) := by
  have e : WS W c 32 = iprop((bigSep Finset.univ fun i : Fin 32 => bigSep Finset.univ fun q : Fin 4 => wPts c i q (W c))
      ∗ bigSep Finset.univ fun i : Fin 32 => bigSep Finset.univ fun q : Fin 4 => wFree c i q) :=
    (bigSep_congr fun i _ => (if_pos i.isLt).trans (bigSep_sep' _ _ _)).trans (bigSep_sep' _ _ _)
  have e1 : (bigSep Finset.univ fun i : Fin 32 => bigSep Finset.univ fun q : Fin 4 => (wFree c i q : sProp 𝕄))
      = iprop((bigSep Finset.univ fun t : Fin 22 => bigSep Finset.univ fun q : Fin 4 => wFree c (Fin.castAdd 10 t) q)
        ∗ bigSep Finset.univ fun t : Fin 10 => bigSep Finset.univ fun q : Fin 4 => wFree c (Fin.natAdd 22 t) q) :=
    cut (m := 22) (n := 10) fun i => bigSep Finset.univ fun q : Fin 4 => wFree c i q
  have e2 : (bigSep Finset.univ fun t : Fin 10 => bigSep Finset.univ fun q : Fin 4 => (wFree c (Fin.natAdd 22 t) q : sProp 𝕄))
      = iprop((bigSep Finset.univ fun s : Fin 10 => bigSep Finset.univ fun q : Fin 4 => iprop(∃ f, bPts c s q f))
        ∗ bigSep Finset.univ fun s : Fin 10 => bigSep Finset.univ fun q : Fin 4 => atPos ER (kcell c (.w s q)) (kEnd c (.w s q)) ∅ 0) := by
    refine Eq.trans ?_ (bigSep_sep' _ _ _)
    refine Eq.trans ?_ (bigSep_univ_equiv lastUse _).symm
    refine bigSep_congr fun t _ => ?_
    refine Eq.trans ?_ (bigSep_sep' _ _ _)
    exact bigSep_congr fun q _ => wFree_late c t q
  rw [e, ← wAll, e1, e2]
  iintro ⟨Hw, -, Hb, Hp⟩
  isplitl [Hw]; · iexact Hw
  isplitl [Hb]
  · iapply (bJoin c); iexact Hb
  iexact Hp

/-! ## What a device starts and ends with -/

/-- The tokens of the duties that the device discharges. -/
def toks : sProp 𝕄 :=
  iprop((bigSep Finset.univ fun j : Fin 31 => dutyTok ER (kcell (fwd c j) .bar) 0 j)
    ∗ (bigSep Finset.univ fun j : Fin 31 => iprop(dutyTok ER (kcell c (.xs j)) 0 0 ∗ dutyTok ER (kcell (bwd c j) (.xr j)) 0 0))
    ∗ (bigSep Finset.univ fun j : Fin 31 => iprop(dutyTok ER (kcell c (.ts (fwd c j))) 0 0 ∗ dutyTok ER (kcell (fwd c j) (.tr c)) 0 0))
    ∗ bigSep Finset.univ fun i : Fin 32 => bigSep Finset.univ fun q : Fin 4 => dutyTok ER (kcell c (.w (sOf i) q)) (rOf i) 0)

/-- The positions on the device's own semaphores. -/
def spots (r : Kd → ℕ) : sProp 𝕄 := bigSep Finset.univ fun k : Kd => atPos ER (kcell c k) (r k) ∅ 0

/-- The credits for what the other devices owe it. -/
def creds : sProp 𝕄 :=
  iprop(cred (tallyAt (kcell c .bar) () 31) ∗ (bigSep Finset.univ fun j : Fin 31 => cred (tallyAt (kcell c (.xr j)) () Nx))
    ∗ bigSep Finset.univ fun j : Fin 31 => cred (tallyAt (kcell c (.tr (fwd c j))) () Na))

def someBufs : sProp 𝕄 :=
  iprop((∃ f, gM.view.loc (c : Thread nD τ) ↦{fullShare} f) ∗ (∃ f, aM.view.loc (c : Thread nD τ) ↦{fullShare} f) ∗ ∃ f, bM.view.loc (c : Thread nD τ) ↦{fullShare} f)

theorem spots_end : iprop(Rec X W A K ∗ spots c (kEnd c)) ⊢ iprop(|={Set.univ}=> bigSep Finset.univ fun k : Kd => semVal (kcell c k) 0) := by
  have h : (bigSep Finset.univ fun k : Kd => iprop(Rec X W A K ∗ atPos ER (kcell c k) (kEnd c k) ∅ 0))
      ⊢ iprop(|={Set.univ}=> bigSep Finset.univ fun k : Kd => semVal (kcell c k) 0) :=
    (bigSep_mono fun k _ => cell_end X W A K c k).trans (bigSep_fupd _ _)
  unfold spots
  iintro ⟨#HR, H⟩
  iapply h
  iapply (Entails.of_eq (bigSep_sep' Finset.univ (fun _ : Kd => Rec X W A K) (fun k => atPos ER (kcell c k) (kEnd c k) ∅ 0)).symm)
  isplitr
  · iapply (BI.bigSep_of_persistent (Finset.univ : Finset Kd) (Rec X W A K)); iexact HR
  iexact H

theorem spots_last : iprop(atPos ER (kcell c .bar) 1 ∅ 0
      ∗ (bigSep Finset.univ fun s : Fin 10 => bigSep Finset.univ fun q : Fin 4 => atPos ER (kcell c (.w s q)) (kEnd c (.w s q)) ∅ 0)
      ∗ (bigSep Finset.univ fun j : Fin 31 => atPos ER (kcell c (.xs j)) 1 ∅ 0) ∗ (bigSep Finset.univ fun j : Fin 31 => atPos ER (kcell c (.xr j)) 1 ∅ 0)
      ∗ (atPos ER (kcell c (.ts c)) 0 ∅ 0 ∗ bigSep Finset.univ fun j : Fin 31 => atPos ER (kcell c (.ts (fwd c j))) 1 ∅ 0)
      ∗ (atPos ER (kcell c (.tr c)) 0 ∅ 0 ∗ bigSep Finset.univ fun j : Fin 31 => atPos ER (kcell c (.tr (fwd c j))) 1 ∅ 0))
    = (spots c (kEnd c) : sProp 𝕄) := by
  have e1 : kEnd c (.ts c) = 0 := if_pos rfl
  have e2 : kEnd c (.tr c) = 0 := if_pos rfl
  have e3 (j : Fin 31) : kEnd c (.ts (fwd c j)) = 1 := if_neg (fwd_ne c j)
  have e4 (j : Fin 31) : kEnd c (.tr (fwd c j)) = 1 := if_neg (fwd_ne c j)
  unfold spots
  rw [kinds c fun k => atPos ER (kcell c k) (kEnd c k) ∅ 0, e1, e2]
  simp only [e3, e4]
  rfl

theorem xOpen (f : S4096x128.Idx → Elt F .f32) : (xPtsAll c f : sProp 𝕄) ⊢ iprop((bigSep Finset.univ fun j : Fin 31 => xPts c j f) ∗ xRest c f) := (xAll c f).1
theorem xClose (f : S4096x128.Idx → Elt F .f32) : iprop((bigSep Finset.univ fun j : Fin 31 => xPts c j f) ∗ xRest c f) ⊢ (xPtsAll c f : sProp 𝕄) := (xAll c f).2

theorem someG (f : S128x4096.Idx → Elt F .f32) :
    (gM.view.loc (c : Thread nD τ) ↦{fullShare} f : sProp 𝕄) ⊢ iprop(gPts c 0 f ∗ bigSep Finset.univ fun j : Fin 31 => iprop(∃ f, gPts c (slotOf j) f)) := by
  have h (j : Fin 31) : (gPts c (slotOf j) f : sProp 𝕄) ⊢ iprop(∃ f, gPts c (slotOf j) f) := by iintro H; iexists f; iexact H
  have hm : (bigSep Finset.univ fun j : Fin 31 => (gPts c (slotOf j) f : sProp 𝕄)) ⊢ bigSep Finset.univ fun j : Fin 31 => iprop(∃ f, gPts c (slotOf j) f) :=
    bigSep_mono fun j _ => h j
  rw [gAll, around_slot]
  iintro ⟨H, Hs⟩
  isplitl [H]; · iexact H
  iapply hm; iexact Hs

theorem someA (f : S32x8x128.Idx → Elt F .f32) :
    (aM.view.loc (c : Thread nD τ) ↦{fullShare} f : sProp 𝕄) ⊢ iprop(aPts c fullShare c f ∗ bigSep Finset.univ fun j : Fin 31 => iprop(∃ f, aPts c fullShare (fwd c j) f)) := by
  have h (j : Fin 31) : (aPts c fullShare (fwd c j) f : sProp 𝕄) ⊢ iprop(∃ f, aPts c fullShare (fwd c j) f) := by iintro H; iexists f; iexact H
  have hm : (bigSep Finset.univ fun j : Fin 31 => (aPts c fullShare (fwd c j) f : sProp 𝕄)) ⊢ bigSep Finset.univ fun j : Fin 31 => iprop(∃ f, aPts c fullShare (fwd c j) f) :=
    bigSep_mono fun j _ => h j
  rw [aAll, around_dev c]
  iintro ⟨H, Hs⟩
  isplitl [H]; · iexact H
  iapply hm; iexact Hs

theorem someB (f : S10x512x2048.Idx → Elt F .f32) :
    (bM.view.loc (c : Thread nD τ) ↦{fullShare} f : sProp 𝕄) ⊢ bigSep Finset.univ fun s : Fin 10 => bigSep Finset.univ fun q : Fin 4 => iprop(∃ f, bPts c s q f) := by
  have h (s : Fin 10) (q : Fin 4) : (bPts c s q f : sProp 𝕄) ⊢ iprop(∃ f, bPts c s q f) := by iintro H; iexists f; iexact H
  rw [bAll]
  exact bigSep_mono fun s _ => bigSep_mono fun q _ => h s q

/-- The copies of `w` with their tokens. -/
theorem wReady : iprop((wM.view.loc (c : Thread nD τ) ↦{fullShare} W c) ∗ bigSep Finset.univ fun i : Fin 32 => bigSep Finset.univ fun q : Fin 4 => dutyTok ER (kcell c (.w (sOf i) q)) (rOf i) 0)
    ⊢ bigSep Finset.univ fun i : Fin 32 => wA W c i := by
  have e : (bigSep Finset.univ fun i : Fin 32 => wA W c i) = iprop((bigSep Finset.univ fun i : Fin 32 => bigSep Finset.univ fun q : Fin 4 => dutyTok ER (kcell c (.w (sOf i) q)) (rOf i) 0)
      ∗ bigSep Finset.univ fun i : Fin 32 => bigSep Finset.univ fun q : Fin 4 => wPts c i q (W c)) :=
    (bigSep_congr fun i _ => bigSep_sep' _ _ _).trans (bigSep_sep' _ _ _)
  rw [e, ← wAll]
  iintro ⟨Hw, Ht⟩
  isplitl [Ht]; · iexact Ht
  iexact Hw

/-- What the barrier hands over, the rows of the table counted forward. -/
theorem fromBar : (bigSep Finset.univ fun j : Fin 31 => iprop((∃ f, gPts (bwd c j) (slotOf j) f) ∗ ∃ f, aPts (bwd c j) fullShare c f))
    ⊢ (iprop((bigSep Finset.univ fun j : Fin 31 => iprop(∃ f, gPts (bwd c j) (slotOf j) f)) ∗ bigSep Finset.univ fun j : Fin 31 => iprop(∃ f, aPts (fwd c j) fullShare c f)) : sProp 𝕄) := by
  have e : (bigSep Finset.univ fun j : Fin 31 => (iprop(∃ f, aPts (bwd c j) fullShare c f) : sProp 𝕄)) = bigSep Finset.univ fun j : Fin 31 => iprop(∃ f, aPts (fwd c j) fullShare c f) :=
    (bigSep_univ_equiv Fin.revPerm _).trans (bigSep_congr fun j _ => by rw [Fin.revPerm_apply, bwd_rev])
  rw [← e, ← bigSep_sep']

/-! ## The body -/

/-- What the body needs besides its two arguments, the staged result and the buffers. -/
def Start : sProp 𝕄 := iprop(Rec X W A K ∗ toks c ∗ spots c (fun _ => 0) ∗ creds c)

def Before : sProp 𝕄 :=
  iprop(Start X W (rowMax X W) K c ∗ Ow c (O₀ c) ∗ xPtsAll c (X c) ∗ (∃ f, oPts c f) ∗ (wM.view.loc (c : Thread nD τ) ↦{fullShare} W c) ∗ someBufs c)

def After : sProp 𝕄 :=
  iprop((bigSep Finset.univ fun k : Kd => semVal (kcell c k) 0) ∗ Ow c 0 ∗ xPtsAll c (X c) ∗ oPts c (outV X W (rowMax X W) c)
    ∗ (wM.view.loc (c : Thread nD τ) ↦{fullShare} W c) ∗ someBufs c)

theorem St_next (i i' : ℕ) (h : i = i') : St X W c O i ⊢ St X W c O i' := by rw [h]

theorem wp_body {Q : PUnit → sProp 𝕄} : Before X W K c ⊢ iprop((After X W c -∗ Q ⟨⟩) -∗ WP c (bodyOn c) Q) := by
  obtain ⟨A, hA⟩ : ∃ A : Dev nD → Elt F .f32, A = rowMax X W := ⟨_, rfl⟩
  unfold Before After Start toks creds someBufs bodyOn
  rw [← hA]
  unfold spots
  rw [kinds c fun k => atPos ER (kcell c k) 0 ∅ 0]
  iintro ⟨⟨#HR, ⟨Htb, Htx, Hta, Htw⟩, ⟨Hpb, Hpw, Hpxs, Hpxr, ⟨Hpts0, Hpts⟩, ⟨Hptr0, Hptr⟩⟩, ⟨Hcb, Hcx, Hca⟩⟩, HO, Hx, ⟨%fo, Ho⟩, Hw, ⟨%fg, Hg⟩, ⟨%fa, Ha⟩, ⟨%fb, Hb⟩⟩ HK
  ihave Hg' := (someG c fg) $$ Hg
  icases Hg' with ⟨Hg0, Hgs⟩
  ihave Ha' := (someA c fa) $$ Ha
  icases Ha' with ⟨Ha0, Has⟩
  ihave Hb' := (someB c fb) $$ Hb
  ihave Hwa := (wReady W c) $$ [Hw Htw]
  · isplitl [Hw]; · iexact Hw
    iexact Htw
  -- the own rows and the first panels
  iapply (wp_own X c fg) $$ [Hx Hg0]
  · isplitl [Hx]; · iexact Hx
    iexact Hg0
  iintro ⟨Hx, Hg0⟩
  iapply (wp_prefetch X W A K c) $$ [Hwa Hb' Hpw]
  · isplitr; · iexact HR
    isplitl [Hwa]; · iexact Hwa
    isplitl [Hb']; · iexact Hb'
    iexact Hpw
  iintro HWS
  -- the barrier
  iapply (wp_signals X W A K c (owedA c 0 + owedX c 0)) $$ [Htb Hgs Has HO]
  · isplitr; · iexact HR
    isplitr [HO]
    · iapply (Entails.of_eq (bigSep_sep' Finset.univ (fun j : Fin 31 => (dutyTok ER (kcell (fwd c j) .bar) 0 j : sProp 𝕄))
        (fun j : Fin 31 => iprop((∃ f, gPts c (slotOf j) f) ∗ ∃ f, aPts c fullShare (fwd c j) f))).symm)
      isplitl [Htb]; · iexact Htb
      iapply (Entails.of_eq (bigSep_sep' Finset.univ (fun j : Fin 31 => (iprop(∃ f, gPts c (slotOf j) f) : sProp 𝕄))
        (fun j : Fin 31 => iprop(∃ f, aPts c fullShare (fwd c j) f))).symm)
      isplitl [Hgs]; · iexact Hgs
      iexact Has
    unfold O₀
    iexact HO
  iintro HO
  iapply (wp_barWait X W A K c (Above.add ((owedA_above c 0).mono (by decide)) (owedX_above c 0))) $$ [Hcb HO Hpb]
  · isplitr; · iexact HR
    isplitl [Hcb]; · iexact Hcb
    isplitl [HO]; · iexact HO
    iexact Hpb
  iintro ⟨HO, Hpb, Hbar⟩
  ihave Hbar' := (fromBar c) $$ Hbar
  icases Hbar' with ⟨Hgs, Has⟩
  -- the rows sent
  ihave Hx' := (xOpen c (X c)) $$ Hx
  icases Hx' with ⟨Hxs, Hxr⟩
  iapply (wp_sends X W A K c (owedA c 0)) $$ [Hxs Hgs Htx HO]
  · isplitr; · iexact HR
    isplitr [HO]
    · iapply (Entails.of_eq (bigSep_sep' Finset.univ (fun j : Fin 31 => (xPts c j (X c) : sProp 𝕄))
        (fun j : Fin 31 => iprop((∃ f, gPts (bwd c j) (slotOf j) f) ∗ dutyTok ER (kcell c (.xs j)) 0 0 ∗ dutyTok ER (kcell (bwd c j) (.xr j)) 0 0))).symm)
      isplitl [Hxs]; · iexact Hxs
      iapply (Entails.of_eq (bigSep_sep' Finset.univ (fun j : Fin 31 => (iprop(∃ f, gPts (bwd c j) (slotOf j) f) : sProp 𝕄))
        (fun j : Fin 31 => iprop(dutyTok ER (kcell c (.xs j)) 0 0 ∗ dutyTok ER (kcell (bwd c j) (.xr j)) 0 0))).symm)
      isplitl [Hgs]; · iexact Hgs
      iexact Htx
    iexact HO
  iintro ⟨Hcs, HO⟩
  -- the steps
  ihave HGS := (GS_start X c) $$ [Hg0 Hcx Hpxr]
  · isplitl [Hg0]; · iexact Hg0
    isplitl [Hcx]; · iexact Hcx
    iexact Hpxr
  iapply (wp_steps28 X W A K c (owedA c 0) (owedA_above c 0)) $$ [HWS HGS Ho HO]
  · isplitr; · iexact HR
    unfold St OS
    isplitl [HWS]; · iexact HWS
    isplitl [HGS]; · iexact HGS
    isplitl [Ho]
    · iexists fo
      isplitl; · iexact Ho
      ipureintro
      exact fun i hi => absurd hi (Nat.not_lt_zero _)
    iexact HO
  iintro HS
  iapply (wp_step X W A K c (owedA c 0) (owedA_above c 0) 28) $$ [HS]
  · isplitr; · iexact HR
    iexact HS
  iintro HS
  iapply (wp_step X W A K c (owedA c 0) (owedA_above c 0) 29) $$ [HS]
  · isplitr; · iexact HR
    iexact HS
  iintro HS
  iapply (wp_step X W A K c (owedA c 0) (owedA_above c 0) 30) $$ [HS]
  · isplitr; · iexact HR
    iexact HS
  iintro HS
  iapply (wp_step X W A K c (owedA c 0) (owedA_above c 0) 31) $$ [HS]
  · isplitr; · iexact HR
    iexact HS
  iintro HS
  ihave HS' := (St_next X W c (owedA c 0) ((31 : Fin 32).val + 1) 32 rfl) $$ HS
  unfold St OS
  icases HS' with ⟨HWS, HGS, ⟨%f, Ho, %hf⟩, HO⟩
  -- the rows are sent
  iapply (wp_sents X W A K c (owedA c 0) ((owedA_above c 0).mono (by decide))) $$ [Hcs Hpxs HO]
  · isplitr; · iexact HR
    isplitr [HO]
    · iapply (Entails.of_eq (bigSep_sep' Finset.univ (fun j : Fin 31 => (cred (tallyAt (kcell c (.xs j)) () Nx) : sProp 𝕄))
        (fun j : Fin 31 => atPos ER (kcell c (.xs j)) 0 ∅ 0)).symm)
      isplitl [Hcs]; · iexact Hcs
      iexact Hpxs
    iexact HO
  iintro ⟨Hxs, HO⟩
  ihave Hxs' := (Entails.of_eq (bigSep_sep' Finset.univ (fun j : Fin 31 => (xPts c j (X c) : sProp 𝕄)) (fun j : Fin 31 => atPos ER (kcell c (.xs j)) 1 ∅ 0))) $$ Hxs
  icases Hxs' with ⟨Hxs, Hpxs⟩
  -- the exchange of the maxima
  iapply (wp_exchange X W A K c _ _ _ _ (congrFun hA c) fa) $$ [Ha0 Has Hta Hca Hptr Hpts HO]
  · isplitr; · iexact HR
    isplitl [Ha0]; · iexact Ha0
    isplitl [Has Hta]
    · iapply (Entails.of_eq (bigSep_sep' Finset.univ (fun j : Fin 31 => (iprop(∃ f, aPts (fwd c j) fullShare c f) : sProp 𝕄))
        (fun j : Fin 31 => iprop(dutyTok ER (kcell c (.ts (fwd c j))) 0 0 ∗ dutyTok ER (kcell (fwd c j) (.tr c)) 0 0))).symm)
      isplitl [Has]; · iexact Has
      iexact Hta
    isplitl [Hca Hptr]
    · iapply (Entails.of_eq (bigSep_sep' Finset.univ (fun j : Fin 31 => (cred (tallyAt (kcell c (.tr (fwd c j))) () Na) : sProp 𝕄))
        (fun j : Fin 31 => atPos ER (kcell c (.tr (fwd c j))) 0 ∅ 0)).symm)
      isplitl [Hca]; · iexact Hca
      iexact Hptr
    isplitl [Hpts]; · iexact Hpts
    iexact HO
  iintro ⟨Ha, Hptr, Hpts, HO⟩
  -- the quantisation
  rw [OHas_end X W c f hf]
  iapply (wp_finish X W A c) $$ [Ha Ho]
  · isplitl [Ha]; · iexact Ha
    iexact Ho
  iintro ⟨Ha, Ho⟩
  -- the end
  ihave Hw := (WS_end W c) $$ HWS
  icases Hw with ⟨Hw, Hb, Hpw⟩
  ihave Hg := (GS_end X c) $$ HGS
  icases Hg with ⟨Hg, Hpxr⟩
  unfold WP
  rw [wp_ret]
  imod (spots_end X W A K c) $$ [Hpb Hpw Hpxs Hpxr Hpts0 Hpts Hptr0 Hptr] with Hz
  · isplitr; · iexact HR
    rw [← spots_last]
    isplitl [Hpb]; · iexact Hpb
    isplitl [Hpw]; · iexact Hpw
    isplitl [Hpxs]; · iexact Hpxs
    isplitl [Hpxr]; · iexact Hpxr
    isplitl [Hpts0 Hpts]
    · isplitl [Hpts0]; · iexact Hpts0
      iexact Hpts
    isplitl [Hptr0]; · iexact Hptr0
    iexact Hptr
  imodintro
  iapply HK
  isplitl [Hz]; · iexact Hz
  isplitl [HO]; · iexact HO
  isplitl [Hxs Hxr]
  · iapply (xClose c (X c))
    isplitl [Hxs]; · iexact Hxs
    iexact Hxr
  isplitl [Ho]; · iexact Ho
  isplitl [Hw]; · iexact Hw
  isplitl [Hg]; · iexists _; iexact Hg
  isplitl [Ha]; · iexists _; unfold aPtsAll; iexact Ha
  iexact Hb

end Cert.KernelIdeal.Own

end
-- ==== Proof.Launch.lean ====
/-
  The launch: what every device starts from, the ghost state dealt to the devices, and the run of the whole program.
-/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

noncomputable section

namespace Cert.KernelIdeal.Own

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## What the devices start from -/

/-- The rows and the matrix that device `c` is given. -/
def xIn (c : Dev nD) : S4096x128.Idx → Elt F .f32 := (win0_0.blk (0 : Fin 1)).view.read (Elt F) (m ((c : Thread nD τ).loc main_arg0))
def wIn (c : Dev nD) : S4096x8192.Idx → Elt F .f32 := m ((c : Thread nD τ).loc main_arg1)

/-- The result of device `c`. -/
def res (c : Dev nD) : S128x8192.Idx → Elt F .f32 := outV (xIn m) (wIn m) (rowMax (xIn m) (wIn m)) c

abbrev RD : Rounds.Schedule (GSem nD τ sig) (Fin 31) 𝕄 := Rd (xIn m) (wIn m) (rowMax (xIn m) (wIn m))

def start (c : Dev nD) : sProp 𝕄 :=
  iprop((∃ K, Start (xIn m) (wIn m) (rowMax (xIn m) (wIn m)) K c) ∗ (wM.view.loc (c : Thread nD τ) ↦{fullShare} wIn m c))

def Φ₀ (c : Dev nD) : sProp 𝕄 := iprop(start m c ∗ someBufs c)
def Φ₁ (c : Dev nD) : sProp 𝕄 :=
  iprop((bigSep Finset.univ fun k : Kd => semVal (kcell c k) 0) ∗ (wM.view.loc (c : Thread nD τ) ↦{fullShare} wIn m c) ∗ someBufs c)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

omit [FloatOps F] in
theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

abbrev held (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

def bodyPre (c : Dev nD) : sProp 𝕄 :=
  iprop(Φ₀ m c ∗ (dats m 0 c).owesAt () t0_0.castSucc
    ∗ (∃ d, held c cc0_stg0_0 ((dats m 0 c).before (0 : Fin 2) t0_0 d))
    ∗ (∃ d, held c cc0_stg1_0 ((dats m 0 c).before (1 : Fin 2) t0_0 d)))

def bodyPost (c : Dev nD) : sProp 𝕄 :=
  iprop(Φ₁ m c ∗ (dats m 0 c).owesAt () t0_0.succ ∗ held c cc0_stg0_0 (xIn m c) ∗ held c cc0_stg1_0 (res m c))

theorem wp_all (c : Dev nD) : bodyPre m c ⊢ WP c (body (F := F)) fun _ => bodyPost m c := by
  unfold body WP
  rw [wp_deviceId]
  unfold bodyPre bodyPost Φ₀ start
  iintro ⟨⟨⟨⟨%K, HS⟩, Hw⟩, Hb⟩, HO, ⟨%d0, %g0, %hg0, Hx⟩, ⟨%d1, %g1, %hg1, Ho⟩⟩
  have hx : g0 = xIn m c := by rw [hg0]; unfold Dat.before; rw [if_pos (fetch0_0 t0_0)]; rfl
  subst hx
  unfold Dat.owesAt Pipeline.owesWithin
  icases HO with ⟨%Ws, %hW, HO⟩
  rw [show (dats m 0 c).owed t0_0.castSucc = O₀ c from rfl, show (dats m 0 c).owed t0_0.succ = 0 from rfl]
  iapply (wp_body (xIn m) (wIn m) K c (Q := fun _ => iprop(Φ₁ m c ∗ (∃ W, ⌜↑W ⊆ (dats m 0 c).bound () t0_0.succ⌝ ∗ owes (c : Thread nD τ) 0 W)
      ∗ held c cc0_stg0_0 (xIn m c) ∗ held c cc0_stg1_0 (res m c)))) $$ [HS HO Hx Ho Hw Hb]
  · unfold Before Ow xPtsAll oPts
    isplitl [HS]; · iexact HS
    isplitl [HO]; · iexists Ws; iexact HO
    isplitl [Hx]; · iexact Hx
    isplitl [Ho]; · iexists g1; iexact Ho
    isplitl [Hw]; · iexact Hw
    iexact Hb
  unfold After Ow xPtsAll oPts Φ₁
  iintro ⟨Hz, ⟨%Ws', HO⟩, Hx, Ho, Hw, Hb⟩
  isplitl [Hz Hw Hb]
  · isplitl [Hz]; · iexact Hz
    isplitl [Hw]; · iexact Hw
    iexact Hb
  isplitl [HO]
  · iexists Ws'
    isplitr; · ipureintro; exact fun _ _ => Or.inl trivial
    iexact HO
  isplitl [Hx]
  · iexists _; isplitr; · (ipureintro; rfl)
    iexact Hx
  iexists _; isplitr; · (ipureintro; rfl)
  iexact Ho

theorem body_at : defs₀ (F := F) Proc.tc 0 (t0_0, cfg0.slots t0_0) = bodyAt0 t0_0 := rfl
theorem bodyAt_eq : bodyAt0 (F := F) t0_0 = body (F := F) := Eq.trans (by with_reducible rfl) (body_eq (F := F))

theorem body_obligation (c : Dev nD) : BodyObligation (dats (F := F) m 0 c) (defs₀ (F := F)) 𝒱₀ () Set.univ := fun t => by
  rw [fin_N0 t]
  rw [bigSep_W0, bigSep_W0]
  simp only [owns_whole]
  have e : defs₀ (F := F) Proc.tc 0 (t0_0, cfg0.slots t0_0) = body (F := F) := body_at.trans bodyAt_eq
  generalize defs₀ (F := F) Proc.tc 0 (t0_0, cfg0.slots t0_0) = p at e ⊢
  have h := wp_all m c
  rw [← e] at h
  exact h

/-! ## The semaphores at launch -/

/-- The kernel's own semaphores. -/
abbrev KO : Type := (Fin 10 × Fin 4) ⊕ Fin 31 ⊕ Fin 31 ⊕ Fin 32 ⊕ Fin 32
def osem (k : KO) : SemLoc sig := ksem (kdEquiv (.inr k))

theorem osem_scoped : ∀ k : KO, (osem k).isScoped .tc = true := by decide +kernel

theorem ownSemFacts : Pipeline.OwnSemFacts cfg0.spec osem where
  isScoped := osem_scoped
  inj := fun a b h => Sum.inr_injective (kdEquiv.injective (ksem_inj h))
  disj := fun k w s h => by
    have h1 : kindOf (osem k) = some (kdEquiv (.inr k)) := kindOf_ksem _
    have h2 : kindOf (.dma ((cfg0.spec w).sem s)) = none := by fin_cases w <;> fin_cases s <;> rfl
    rw [h, h2] at h1
    exact absurd h1 (by simp)

omit [FloatOps F] in
theorem barSem (c : Dev nD) : (unscopedSems0 c : sProp 𝕄) = semVal (kcell c .bar) 0 := by
  unfold unscopedSems0; rw [bigSep_eq_bigSepL_of_eq [SemLoc.reg barS] (by decide +kernel) (by decide +kernel)]; rfl

omit [FloatOps F] in
theorem sems (c : Dev nD) :
    (bigSep Finset.univ fun k : Kd => semVal (kcell c k) 0 : sProp 𝕄)
      = iprop(unscopedSems0 c ∗ Pipeline.ownSems0 (Ix := Unit) (Name := ℕ) (U := UU) (Lvl := ℕ) (Val := Elt F) (τ := τ) osem c) := by
  have h0 : (bigSep Finset.univ fun u : Unit => (semVal (kcell c (kdEquiv (.inl u))) 0 : sProp 𝕄)) = semVal (kcell c .bar) 0 := by
    rw [show (Finset.univ : Finset Unit) = {()} from rfl, bigSep_singleton]; rfl
  rw [bigSep_univ_equiv kdEquiv, bigSep_univ_sum, h0, barSem]
  rfl

/-! ## The ghost state at launch -/

def kcells : Finset (GSem nD τ sig) := Finset.univ.map ⟨fun p : Dev nD × Kd => kcell p.1 p.2, fun p q h => Prod.ext (kcell_inj h).1 (kcell_inj h).2⟩

/-- The duties that are discharged on a device's semaphores. -/
abbrev TI : Type := Fin 31 ⊕ Fin 31 ⊕ Fin 31 ⊕ Fin 31 ⊕ Fin 31 ⊕ (Fin 32 × Fin 4)
def tkKind (c : Dev nD) : TI → Kd
  | .inl j => .bar
  | .inr (.inl j) => .xs j
  | .inr (.inr (.inl j)) => .xr j
  | .inr (.inr (.inr (.inl j))) => .ts (fwd c j)
  | .inr (.inr (.inr (.inr (.inl j)))) => .tr (fwd c j)
  | .inr (.inr (.inr (.inr (.inr p)))) => .w (sOf p.1) p.2
def tkRound : TI → ℕ
  | .inr (.inr (.inr (.inr (.inr p)))) => rOf p.1
  | _ => 0
def tkDuty : TI → Fin 31
  | .inl j => j
  | _ => 0
def tokOf (p : Dev nD × TI) : GSem nD τ sig × ℕ × Fin 31 := (kcell p.1 (tkKind p.1 p.2), tkRound p.2, tkDuty p.2)

theorem tokOf_inj : Function.Injective tokOf := by
  rintro ⟨c, a⟩ ⟨c', b⟩ h
  obtain ⟨hc, hk⟩ := kcell_inj (congrArg (fun x : GSem nD τ sig × ℕ × Fin 31 => x.1) h)
  have hr : tkRound a = tkRound b := congrArg (fun x : GSem nD τ sig × ℕ × Fin 31 => x.2.1) h
  have hd : tkDuty a = tkDuty b := congrArg (fun x : GSem nD τ sig × ℕ × Fin 31 => x.2.2) h
  have hc' : c = c' := hc
  subst hc'
  have hk' : tkKind c a = tkKind c b := hk
  refine Prod.ext rfl ?_
  show a = b
  rcases a with i | i | i | i | i | i <;> rcases b with j | j | j | j | j | j <;> first
    | exact Kd.noConfusion hk'
    | skip
  · exact congrArg Sum.inl hd
  · rw [Kd.xs.inj hk']
  · rw [Kd.xr.inj hk']
  · rw [fwd_inj c (Kd.ts.inj hk')]
  · rw [fwd_inj c (Kd.tr.inj hk')]
  · obtain ⟨h1, h2⟩ := Kd.w.inj hk'
    have h3 : i.1.val % 10 = j.1.val % 10 := congrArg Fin.val h1
    have h4 : i.1.val / 10 = j.1.val / 10 := hr
    have h5 : i = j := Prod.ext (Fin.ext (by omega)) h2
    rw [h5]

def ktoks : Finset (GSem nD τ sig × ℕ × Fin 31) := Finset.univ.map ⟨tokOf, tokOf_inj⟩

def u₀ : UU :=
  (initOf (Pipeline.cells cfgs cellOf_inj) (Pipeline.launchToks cfgs cellOf_inj), initOf kcells ktoks)

/-- The tokens of a device's own semaphores. -/
def ownToks (c : Dev nD) : sProp 𝕄 :=
  iprop((bigSep Finset.univ fun j : Fin 31 => dutyTok ER (kcell c .bar) 0 j)
    ∗ (bigSep Finset.univ fun j : Fin 31 => dutyTok ER (kcell c (.xs j)) 0 0) ∗ (bigSep Finset.univ fun j : Fin 31 => dutyTok ER (kcell c (.xr j)) 0 0)
    ∗ (bigSep Finset.univ fun j : Fin 31 => dutyTok ER (kcell c (.ts (fwd c j))) 0 0) ∗ (bigSep Finset.univ fun j : Fin 31 => dutyTok ER (kcell c (.tr (fwd c j))) 0 0)
    ∗ bigSep Finset.univ fun i : Fin 32 => bigSep Finset.univ fun q : Fin 4 => dutyTok ER (kcell c (.w (sOf i) q)) (rOf i) 0)

def G (c : Dev nD) : sProp 𝕄 :=
  iprop((bigSep Finset.univ fun k : Kd => roundState ER (RD m) (kcell c k) 0)
    ∗ spots c (fun _ => 0) ∗ (bigSep Finset.univ fun k : Kd => reached ER (kcell c k) 0) ∗ ownToks c)

omit [FloatOps F] in
theorem over_cells (Φ : GSem nD τ sig → sProp 𝕄) : bigSep kcells Φ = bigSep Finset.univ fun c : Dev nD => bigSep Finset.univ fun k : Kd => Φ (kcell c k) := by
  unfold kcells; rw [bigSep_map, bigSep_univ_prod]; rfl

omit [FloatOps F] in
theorem over_toks : bigSep ktoks (fun x => (dutyTok ER x.1 x.2.1 x.2.2 : sProp 𝕄)) = bigSep Finset.univ fun c : Dev nD => ownToks c := by
  unfold ktoks; rw [bigSep_map, bigSep_univ_prod]
  refine bigSep_congr fun c _ => ?_
  unfold ownToks
  rw [bigSep_univ_sum, bigSep_univ_sum, bigSep_univ_sum, bigSep_univ_sum, bigSep_univ_sum, bigSep_univ_prod]
  rfl

theorem fund_own : BI.own (ER (initOf kcells ktoks)) ⊢ (|==> bigSep Finset.univ (G m) : sProp 𝕄) := by
  have e : (bigSep Finset.univ (G m) : sProp 𝕄) = iprop((bigSep Finset.univ fun c : Dev nD => bigSep Finset.univ fun k : Kd => roundState ER (RD m) (kcell c k) 0)
      ∗ (bigSep Finset.univ fun c : Dev nD => spots c (fun _ => 0)) ∗ (bigSep Finset.univ fun c : Dev nD => bigSep Finset.univ fun k : Kd => reached ER (kcell c k) 0)
      ∗ bigSep Finset.univ fun c : Dev nD => ownToks c) := by
    unfold G; rw [bigSep_sep', bigSep_sep', bigSep_sep']
  rw [e]
  iintro HX
  imod (Rounds.fund ER (RD m) kcells ktoks) $$ HX with ⟨Hst, Hr, Hat, Htok⟩
  imodintro
  ihave Hst' := (Entails.of_eq (over_cells fun g => roundState ER (RD m) g 0)) $$ Hst
  ihave Hat' := (Entails.of_eq (over_cells fun g => (atPos ER g 0 ∅ 0 : sProp 𝕄))) $$ Hat
  ihave Hr' := (Entails.of_eq (over_cells fun g => (reached ER g 0 : sProp 𝕄))) $$ Hr
  ihave Htok' := (Entails.of_eq over_toks) $$ Htok
  unfold spots
  isplitl [Hst']; · iexact Hst'
  isplitl [Hat']; · iexact Hat'
  isplitl [Hr']; · iexact Hr'
  iexact Htok'

/-! ## The tokens dealt -/

section Deal
omit [FloatOps F]

theorem deal_fwd (Φ : Dev nD → Fin 31 → sProp 𝕄) :
    (bigSep Finset.univ fun c : Dev nD => bigSep Finset.univ fun j : Fin 31 => Φ c j) = bigSep Finset.univ fun c : Dev nD => bigSep Finset.univ fun j : Fin 31 => Φ (fwd c j) j := by
  rw [BI.bigSep_univ_comm, BI.bigSep_univ_comm fun (c : Dev nD) (j : Fin 31) => Φ (fwd c j) j]
  exact bigSep_congr fun j _ => bigSep_univ_equiv (turn j) fun c => Φ c j
theorem deal_bwd (Φ : Dev nD → Fin 31 → sProp 𝕄) :
    (bigSep Finset.univ fun c : Dev nD => bigSep Finset.univ fun j : Fin 31 => Φ c j) = bigSep Finset.univ fun c : Dev nD => bigSep Finset.univ fun j : Fin 31 => Φ (bwd c j) j := by
  rw [BI.bigSep_univ_comm, BI.bigSep_univ_comm fun (c : Dev nD) (j : Fin 31) => Φ (bwd c j) j]
  exact bigSep_congr fun j _ => bigSep_univ_equiv (turn j).symm fun c => Φ c j
theorem deal_pair (Φ : Dev nD → Dev nD → sProp 𝕄) :
    (bigSep Finset.univ fun c : Dev nD => bigSep Finset.univ fun j : Fin 31 => Φ c (fwd c j)) = bigSep Finset.univ fun c : Dev nD => bigSep Finset.univ fun j : Fin 31 => Φ (fwd c j) c := by
  have e1 (c : Dev nD) : (bigSep Finset.univ fun j : Fin 31 => Φ c (fwd c j)) = bigSep Finset.univ fun j : Fin 31 => Φ c (bwd c j) :=
    ((bigSep_univ_equiv Fin.revPerm fun j => Φ c (bwd c j)).trans (bigSep_congr fun j _ => by rw [Fin.revPerm_apply, bwd_rev])).symm
  rw [bigSep_congr fun c _ => e1 c, deal_fwd fun c j => Φ c (bwd c j)]
  exact bigSep_congr fun c _ => bigSep_congr fun j _ => by rw [bwd_fwd]

theorem deal : (bigSep Finset.univ fun c : Dev nD => (ownToks c : sProp 𝕄)) ⊢ bigSep Finset.univ fun c : Dev nD => toks c := by
  have e1 : (bigSep Finset.univ fun c : Dev nD => (ownToks c : sProp 𝕄)) = iprop(
      (bigSep Finset.univ fun c : Dev nD => bigSep Finset.univ fun j : Fin 31 => dutyTok ER (kcell (fwd c j) .bar) 0 j)
      ∗ (bigSep Finset.univ fun c : Dev nD => bigSep Finset.univ fun j : Fin 31 => dutyTok ER (kcell c (.xs j)) 0 0)
      ∗ (bigSep Finset.univ fun c : Dev nD => bigSep Finset.univ fun j : Fin 31 => dutyTok ER (kcell (bwd c j) (.xr j)) 0 0)
      ∗ (bigSep Finset.univ fun c : Dev nD => bigSep Finset.univ fun j : Fin 31 => dutyTok ER (kcell c (.ts (fwd c j))) 0 0)
      ∗ (bigSep Finset.univ fun c : Dev nD => bigSep Finset.univ fun j : Fin 31 => dutyTok ER (kcell (fwd c j) (.tr c)) 0 0)
      ∗ bigSep Finset.univ fun c : Dev nD => bigSep Finset.univ fun i : Fin 32 => bigSep Finset.univ fun q : Fin 4 => dutyTok ER (kcell c (.w (sOf i) q)) (rOf i) 0) := by
    unfold ownToks
    rw [bigSep_sep', bigSep_sep', bigSep_sep', bigSep_sep', bigSep_sep', deal_fwd fun c j => dutyTok ER (kcell c .bar) 0 j,
      deal_bwd fun c j => dutyTok ER (kcell c (.xr j)) 0 0, deal_pair fun c t => dutyTok ER (kcell c (.tr t)) 0 0]
  have e2 : (bigSep Finset.univ fun c : Dev nD => (toks c : sProp 𝕄)) = iprop(
      (bigSep Finset.univ fun c : Dev nD => bigSep Finset.univ fun j : Fin 31 => dutyTok ER (kcell (fwd c j) .bar) 0 j)
      ∗ ((bigSep Finset.univ fun c : Dev nD => bigSep Finset.univ fun j : Fin 31 => dutyTok ER (kcell c (.xs j)) 0 0)
        ∗ (bigSep Finset.univ fun c : Dev nD => bigSep Finset.univ fun j : Fin 31 => dutyTok ER (kcell (bwd c j) (.xr j)) 0 0))
      ∗ ((bigSep Finset.univ fun c : Dev nD => bigSep Finset.univ fun j : Fin 31 => dutyTok ER (kcell c (.ts (fwd c j))) 0 0)
        ∗ (bigSep Finset.univ fun c : Dev nD => bigSep Finset.univ fun j : Fin 31 => dutyTok ER (kcell (fwd c j) (.tr c)) 0 0))
      ∗ bigSep Finset.univ fun c : Dev nD => bigSep Finset.univ fun i : Fin 32 => bigSep Finset.univ fun q : Fin 4 => dutyTok ER (kcell c (.w (sOf i) q)) (rOf i) 0) := by
    unfold toks
    simp only [bigSep_sep']
  rw [e1, e2]
  iintro ⟨H1, H2, H3, H4, H5, H6⟩
  isplitl [H1]; · iexact H1
  isplitl [H2 H3]
  · isplitl [H2]; · iexact H2
    iexact H3
  isplitl [H4 H5]
  · isplitl [H4]; · iexact H4
    iexact H5
  iexact H6

end Deal

/-! ## The invariants allocated -/

/-- What a device has after the invariants are allocated. -/
def G' (c : Dev nD) : sProp 𝕄 :=
  iprop(∃ K : Dev nD × Kd → ℕ, ((bigSep Finset.univ fun p : Dev nD × Kd => cellInv ER (RD m) (K p) (kcell p.1 p.2))
    ∗ bigSep Finset.univ fun p : Dev nD × Kd => reached ER (kcell p.1 p.2) 0) ∗ toks c ∗ spots c (fun _ => 0))

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (RD m) κ (kcell c k)))
          ∗ spots c (fun _ => 0) ∗ (bigSep Finset.univ fun k : Kd => reached ER (kcell c k) 0) ∗ ownToks c) := by
  have h : iprop((bigSep Finset.univ fun k : Kd => semVal (kcell c k) 0) ∗ bigSep Finset.univ fun k : Kd => roundState ER (RD m) (kcell c k) 0)
      ⊢ (|={Set.univ}=> bigSep Finset.univ fun k : Kd => iprop(∃ κ : ℕ, cellInv ER (RD m) κ (kcell c k)) : sProp 𝕄) := by
    rw [← bigSep_sep']
    exact (bigSep_mono fun k _ => (Rounds.body_intro ER (RD m) (kcell c k)).trans inv_alloc).trans (bigSep_fupd _ _)
  unfold G
  iintro ⟨Hos, Hus, Hst, Hat, Hr, Htok⟩
  imod h $$ [Hos Hus Hst] with Hinv
  · isplitr [Hst]
    · iapply (Entails.of_eq (sems c).symm)
      isplitl [Hus]; · iexact Hus
      iexact Hos
    iexact Hst
  imodintro
  isplitl [Hinv]; · iexact Hinv
  isplitl [Hat]; · iexact Hat
  isplitl [Hr]; · iexact Hr
  iexact Htok

theorem regroup :
    (bigSep Finset.univ fun c : Dev nD => iprop((bigSep Finset.univ fun k : Kd => iprop(∃ κ : ℕ, cellInv ER (RD m) κ (kcell c k)))
          ∗ spots c (fun _ => 0) ∗ (bigSep Finset.univ fun k : Kd => reached ER (kcell c k) 0) ∗ ownToks c) : sProp 𝕄)
      ⊢ bigSep Finset.univ (G' m) := by
  rw [bigSep_sep', bigSep_sep', bigSep_sep', ← bigSep_univ_prod (fun p : Dev nD × Kd => iprop(∃ κ : ℕ, cellInv ER (RD m) κ (kcell p.1 p.2))),
    ← bigSep_univ_prod (fun p : Dev nD × Kd => (reached ER (kcell p.1 p.2) 0 : sProp 𝕄))]
  have intro_at (K : Dev nD × Kd → ℕ) (c : Dev nD) : iprop(((bigSep Finset.univ fun p : Dev nD × Kd => cellInv ER (RD m) (K p) (kcell p.1 p.2))
      ∗ bigSep Finset.univ fun p : Dev nD × Kd => reached ER (kcell p.1 p.2) 0) ∗ toks c ∗ spots c (fun _ => 0)) ⊢ G' m c := by
    unfold G'; iintro H; iexists K; iexact H
  iintro ⟨HI, Hat, #HR, Htok⟩
  ihave HK := (BI.bigSep_exists_pi Finset.univ (fun (p : Dev nD × Kd) (κ : ℕ) => (cellInv ER (RD m) κ (kcell p.1 p.2) : sProp 𝕄))) $$ HI
  icases HK with ⟨%K, #HI⟩
  ihave Htk := (deal (F := F)) $$ Htok
  have hm : (bigSep Finset.univ fun c : Dev nD => iprop(((bigSep Finset.univ fun p : Dev nD × Kd => cellInv ER (RD m) (K p) (kcell p.1 p.2))
      ∗ bigSep Finset.univ fun p : Dev nD × Kd => reached ER (kcell p.1 p.2) 0) ∗ toks c ∗ spots c (fun _ => 0))) ⊢ bigSep Finset.univ (G' m) :=
    bigSep_mono fun c _ => intro_at K c
  iapply hm
  iapply (Entails.of_eq (bigSep_sep' Finset.univ (fun _ : Dev nD => iprop((bigSep Finset.univ fun p : Dev nD × Kd => cellInv ER (RD m) (K p) (kcell p.1 p.2))
      ∗ bigSep Finset.univ fun p : Dev nD × Kd => reached ER (kcell p.1 p.2) 0)) (fun c => iprop(toks c ∗ spots c (fun _ => 0)))).symm)
  isplitr
  · iapply (BI.bigSep_of_persistent (Finset.univ : Finset (Dev nD)) (iprop((bigSep Finset.univ fun p : Dev nD × Kd => cellInv ER (RD m) (K p) (kcell p.1 p.2))
      ∗ bigSep Finset.univ fun p : Dev nD × Kd => reached ER (kcell p.1 p.2) 0)))
    isplitl; · iexact HI
    iexact HR
  iapply (Entails.of_eq (bigSep_sep' Finset.univ (fun c : Dev nD => (toks c : sProp 𝕄)) (fun c => spots c (fun _ => 0))).symm)
  isplitl [Htk]; · iexact Htk
  iexact Hat

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## The credits at launch -/

/-- What the other devices owe device `c`, summed. -/
def due (c : Dev nD) : CellTallies nD τ sig Unit :=
  (∑ j : Fin 31, tallyAt (kcell c (.tr (fwd c j))) () Na) + (∑ j : Fin 31, tallyAt (kcell c (.xr j)) () Nx) + ∑ _j : Fin 31, tallyAt (kcell c .bar) () 1

theorem sum_fwd (f : Dev nD → Fin 31 → CellTallies nD τ sig Unit) : ∑ c : Dev nD, ∑ j : Fin 31, f (fwd c j) j = ∑ c : Dev nD, ∑ j : Fin 31, f c j := by
  rw [Finset.sum_comm, Finset.sum_comm (f := fun c j => f c j)]
  exact Finset.sum_congr rfl fun j _ => Equiv.sum_comp (turn j) fun c => f c j
theorem sum_bwd (f : Dev nD → Fin 31 → CellTallies nD τ sig Unit) : ∑ c : Dev nD, ∑ j : Fin 31, f (bwd c j) j = ∑ c : Dev nD, ∑ j : Fin 31, f c j := by
  rw [Finset.sum_comm, Finset.sum_comm (f := fun c j => f c j)]
  exact Finset.sum_congr rfl fun j _ => Equiv.sum_comp (turn j).symm fun c => f c j
theorem sum_pair (f : Dev nD → Dev nD → CellTallies nD τ sig Unit) : ∑ c : Dev nD, ∑ j : Fin 31, f (fwd c j) c = ∑ c : Dev nD, ∑ j : Fin 31, f c (fwd c j) := by
  have e1 (c : Dev nD) : ∑ j : Fin 31, f c (fwd c j) = ∑ j : Fin 31, f c (bwd c j) := by
    rw [← Equiv.sum_comp Fin.revPerm fun j => f c (bwd c j)]
    exact Finset.sum_congr rfl fun j _ => by rw [Fin.revPerm_apply, bwd_rev]
  rw [Finset.sum_congr rfl fun c _ => e1 c, ← sum_fwd fun c j => f c (bwd c j)]
  exact Finset.sum_congr rfl fun c _ => Finset.sum_congr rfl fun j _ => by rw [bwd_fwd]

theorem from_zero (f : Fin 31 → CellTallies nD τ sig Unit) : ∑ j ∈ Finset.univ.filter (fun j : Fin 31 => 0 ≤ j.val), f j = ∑ j : Fin 31, f j := by
  rw [Finset.filter_true_of_mem fun j _ => Nat.zero_le _]

theorem due_sum : (∑ d, O₀ d) = ∑ d, due d := by
  unfold O₀ due owedA owedX owedBar
  simp only [from_zero, Finset.sum_add_distrib]
  rw [sum_pair fun c t => tallyAt (kcell c (.tr t)) () Na, sum_bwd fun c j => tallyAt (kcell c (.xr j)) () Nx, sum_fwd fun c _ => tallyAt (kcell c .bar) () 1]

theorem at_own {c : Dev nD} {k : Kd} {n : ℕ} {g : GSem nD τ sig} (h : (tallyAt (kcell c k) () n : CellTallies nD τ sig Unit) g ≠ 0) : g.1 = (c : Thread nD τ) := by
  by_contra hg
  refine h (Finsupp.ext fun u => ?_)
  rw [tallyAt_apply, if_neg (fun h' => hg (by rw [h'.1]))]
  rfl

theorem due_own (c : Dev nD) (g : GSem nD τ sig) (h : due c g ≠ 0) : g.1 = (c : Thread nD τ) := by
  by_contra hg
  have hs (s : Fin 31 → Kd) (n : ℕ) : (∑ j : Fin 31, tallyAt (kcell c (s j)) () n : CellTallies nD τ sig Unit) g = 0 := by
    rw [Finset.sum_apply]
    exact Finset.sum_eq_zero fun j _ => by by_contra h'; exact hg (at_own h')
  refine h ?_
  unfold due
  rw [Pi.add_apply, Pi.add_apply, hs, hs, hs, add_zero, add_zero]

theorem bar_units (c : Dev nD) : (∑ _j : Fin 31, tallyAt (kcell c .bar) () 1 : CellTallies nD τ sig Unit) = tallyAt (kcell c .bar) () 31 := by
  funext g
  refine Finsupp.ext fun u => ?_
  rw [Finset.sum_apply, Finsupp.finsetSum_apply, Finset.sum_congr rfl fun _ _ => tallyAt_apply .., tallyAt_apply, Finset.sum_const, Finset.card_univ, Fintype.card_fin]
  split <;> rfl

omit [FloatOps F] in
theorem credits (c : Dev nD) : (Pipeline.launchCred O₀ c : sProp 𝕄) ⊢ creds c := by
  rw [Pipeline.launchCred_of_sum O₀ due due_sum due_own c]
  unfold due creds
  rw [bar_units]
  iintro H
  ihave H1 := (cred_add _ _).1 $$ H
  icases H1 with ⟨H1, H2⟩
  ihave H3 := (cred_add _ _).1 $$ H1
  icases H3 with ⟨H3, H4⟩
  isplitl [H2]; · iexact H2
  isplitl [H4]
  · iapply (Entails.of_eq (Pipeline.cred_finsetSum Finset.univ fun j : Fin 31 => (tallyAt (kcell c (.xr j)) () Nx : CellTallies nD τ sig Unit))); iexact H4
  iapply (Entails.of_eq (Pipeline.cred_finsetSum Finset.univ fun j : Fin 31 => (tallyAt (kcell c (.tr (fwd c j))) () Na : CellTallies nD τ sig Unit))); iexact H3

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  unfold start Start G' Rec
  iintro ⟨Hw, Hlev, Hcr, -, ⟨%K, ⟨HI, HR⟩, Htok, Hat⟩⟩
  ihave Hc := (credits (F := F) c) $$ Hcr
  imodintro
  isplitl
  · isplitr [Hw]
    · iexists K
      isplitl [HI HR Hlev]
      · isplitl [HI]; · iexact HI
        isplitl [HR]; · iexact HR
        iexact Hlev
      isplitl [Htok]; · iexact Htok
      isplitl [Hat]; · iexact Hat
      iexact Hc
    iexact Hw
  · iempintro

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = _ from scopedRest0_eq c]
  unfold Φ₀ someBufs
  iintro ⟨Hs, -, Hr⟩
  isplitl [Hs]; · iexact Hs
  iexact Hr

def exitOf (c : Dev nD) : sProp 𝕄 := iprop(unscopedSems0 c ∗ (wM.view.loc (c : Thread nD τ) ↦{fullShare} wIn m c))

theorem phi_exit (c : Dev nD) :
    (dats m 0 c).Φ (Fin.last cfg0.N) ⊢ iprop(exitOf m c ∗ Pipeline.ownSems0 osem c ∗ Pipeline.scopedRest cfg0.spec c) := by
  rw [show (dats m 0 c).Φ (Fin.last cfg0.N) = Φ₁ m c from rfl, show (Pipeline.scopedRest cfg0.spec c : sProp 𝕄) = _ from scopedRest0_eq c]
  unfold Φ₁ someBufs exitOf
  rw [sems]
  iintro ⟨⟨Hu, Hs⟩, Hw, Hr⟩
  isplitl [Hu Hw]
  · isplitl [Hu]; · iexact Hu
    iexact Hw
  isplitl [Hs]; · iexact Hs
  iexact Hr

theorem pipeWaits (c : Dev nD) : (levAts L lv : sProp 𝕄) ⊢ Pipeline.cellsWaits cfgs (dats m) () 0 c :=
  Pipeline.cellsWaits_intro cfgs (dats m) () 0 c fun w s t =>
    mayWait c _ (n := 0) (by fin_cases w <;> fin_cases s <;> exact Nat.le_refl 0) (by
      rcases t with ⟨_ | _, ht⟩
      · exact O₀_above c
      · exact Above.zero 0)

theorem share_eq (c : Dev nD) (w : Fin cfg0.W) : (dats m 0 c).share w = fullShare := by unfold Dat.share; split <;> rfl

/-! ## The run -/

/-- The arrays at the end: those of the windows as the pipeline leaves them, the matrix unchanged. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

set_option maxRecDepth 65536 in
theorem run_pipeline : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := pipeWaits m)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := exitOf m) (Z := fun _ => iprop(emp))
    (hX := start_intro m ρ) (hin := phi_intro m) (hout := phi_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold exitOf
      iintro ⟨⟨Hu, Hw⟩, -, HSI⟩
      ihave %h := (SI_pointsTo_agree (st := s') (ℓ := wM.view.loc (c : Thread nD τ)) (I := Finset.univ) (q := fullShare) (f := wIn m c)) $$ [Hw HSI]
      · isplitl [HSI] <;> iassumption
      imod (Pipeline.unscopedSems0_read (X := unscopedSems0 c) (c := c) fupd_intro s') $$ [Hu HSI] with ⟨%hs, HSI⟩
      · isplitl [Hu] <;> iassumption
      imodintro
      isplitr; · ipureintro; exact ⟨hs, funext fun i => h i (Finset.mem_univ i)⟩
      iexact HSI)
    (hQ := fun _ h hs => ⟨fun c => ⟨fun w => (h c).1 w, (h c).2.2.2⟩, sem_eq_zero hs fun c => (h c).2.2.1⟩)

end Cert.KernelIdeal.Own

end
-- ==== Proof.Run.lean ====
/-
  The run of the whole program with its result named.
-/
module

public import proofs.«01_k».proof.Proof.Launch
public import Idealize.ShloMosaic.Lib.Pipeline.Value

@[expose] public section

noncomputable section

namespace Cert.KernelIdeal.Own

open Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- An index of the rows' block is the same index of their array, and so for the result. -/
theorem emb_x (t : Fin cfg0.N) (j : S4096x128.Idx) : ((cfg0.win 0).blk t).view.emb j = j := by
  funext a; apply Fin.ext
  match a with
  | ⟨0, _⟩ => show 0 * 4096 + 1 * (j 0).val = (j 0).val; omega
  | ⟨1, _⟩ => show 0 * 128 + 1 * (j 1).val = (j 1).val; omega

theorem emb_o (t : Fin cfg0.N) (j : S128x8192.Idx) : ((cfg0.win 1).blk t).view.emb j = j := by
  funext a; apply Fin.ext
  match a with
  | ⟨0, _⟩ => show 0 * 128 + 1 * (j 0).val = (j 0).val; omega
  | ⟨1, _⟩ => show 0 * 8192 + 1 * (j 1).val = (j 1).val; omega

theorem xIn_eq (c : Dev nD) : xIn m c = m ((c : Thread nD τ).loc main_arg0) := by
  funext j
  show m ((c : Thread nD τ).loc main_arg0) (((cfg0.win 0).blk t0_0).view.emb j) = _
  rw [emb_x]

theorem covered_o (i : S128x8192.Idx) : ∃ t : Fin cfg0.N, (cfg0.win 1).flush t = true ∧ i ∈ ((cfg0.win 1).blk t).view.set :=
  ⟨t0_0, flush0_1 t0_0, by have h := ((cfg0.win 1).blk t0_0).view.emb_mem_set i; rwa [emb_o] at h⟩

theorem flushed_o (c : Dev nD) (t : Fin cfg0.N) : (dats m 0 c).flushed 1 t = ((cfg0.win 1).blk t).view.read (Elt F) (res m c) := by
  funext j
  show res m c j = res m c (((cfg0.win 1).blk t).view.emb j)
  rw [emb_o]

theorem final_o (c : Dev nD) : (dats m 0 c).arrAt 1 cfg0.N = res m c :=
  (dats m 0 c).arrAt_eq_of_cover 1 (res m c) (fun t _ => flushed_o m c t) covered_o

theorem run_main : θ_run defs (onTc (τ := τ) (main (F := F))) ⟨m, fun _ => 0, ρ⟩ (fun r => (∀ c : Dev nD,
      r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => ⟨((h.1 c).1 1).trans (final_o m c),
      ((h.1 c).1 0).trans ((dats m 0 c).arrAt_in 0 rfl _), (h.1 c).2⟩, h.2⟩) (run_pipeline m ρ)

end Cert.KernelIdeal.Own

end
-- ==== Proof.Frames.lean ====
/-
  The three frames: every run ends, the arguments unchanged and every semaphore at zero.
-/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.SL.Sem

/-- The run with the arguments unchanged, over any floats. -/
theorem run_frame {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.KernelIdeal.Own.run_main m g)

theorem frame_ideal : Cert.quiescent_KernelIdeal (hKernelIdeal := Cert.KernelIdeal.Gen.facts) := fun m g _ => run_frame m g

section
open Cert.Kernel.Gen Cert.KernelIdeal.Gen
variable {F : FTy → Type} [FloatOps F]

set_option maxRecDepth 65536 in
/-- The kernel's program is the text of its idealization: first the bodies, then the calls. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

theorem calls_eq : Cert.KernelIdeal.defs (F := F) = Cert.Kernel.defs (F := F) :=
  (congrArg (Pipeline.defs Cert.KernelIdeal.pcfgs) bodies_eq).symm

end

theorem frame_kernel : Cert.quiescent_Kernel (hKernel := Cert.Kernel.Gen.facts) := fun m g _ => by
  have h := run_frame (F := Bits) m g
  rw [calls_eq] at h
  exact h

theorem frame_reference : Cert.quiescent_ReferenceIdeal (hReferenceIdeal := Cert.ReferenceIdeal.Gen.facts) := fun m ρ _ =>
  Cert.ReferenceIdeal.Gen.frame m ρ

end Cert.Proof

end
-- ==== Proof.Product.lean ====
/-
  A device's block of the product over the extended reals: the sum over its 32 slots, taken from the device's own rows
  around the mesh, is the whole product's sum.
-/
module

public import proofs.«01_k».proof.Proof.Ending
public import Idealize.ShloMosaic.Lib.MatmulPlain
public import Idealize.ShloMosaic.Lib.ValueLayout
public import Idealize.ShloMosaic.Lib.Pipeline.Value
public import Idealize.ShloMosaic.Lib.Pipeline.ValueKit.Geometry
public import Mathlib.Algebra.BigOperators.Fin

@[expose] public section

noncomputable section

namespace Cert.KernelIdeal.Own

open Cert.KernelIdeal.Gen
open Idealize.ShloMosaic hiding ix2 ix3
open Idealize.ShloMosaic.ValueIdx
open scoped BigOperators

/-- The whole product of the whole arrays, at a row and a column. -/
def prodAt (x : FVec Ideal ⟨2, ![4096, 4096]⟩ .f32) (w : FVec Ideal ⟨2, ![4096, 8192]⟩ .f32) (r : Fin 4096) (b : Fin 8192) : EReal :=
  ∑ k : Fin 4096, x (ix2 r k) * w (ix2 k b)

/-- The rows and columns of device `c`'s block, and the position of the contraction that its gathered column `j` holds. -/
def rowOf (c : Dev nD) (a : Fin 128) : Fin 4096 := ⟨128 * c.val + a.val, by have := dev_lt c; have := a.isLt; omega⟩
def colOf (g : Fin 4) (n : Fin 2048) : Fin 8192 := ⟨2048 * g.val + n.val, by have := g.isLt; have := n.isLt; omega⟩
def posOf (c : Dev nD) (j : ℕ) : Fin 4096 := ⟨(128 * c.val + j) % 4096, Nat.mod_lt _ (by decide)⟩

variable {X : Dev nD → S4096x128.Idx → Elt Ideal .f32} {W : Dev nD → S4096x8192.Idx → Elt Ideal .f32}
variable {x : FVec Ideal ⟨2, ![4096, 4096]⟩ .f32} {w : FVec Ideal ⟨2, ![4096, 8192]⟩ .f32}

/-- What the devices hold of the whole arrays. -/
def Holds (X : Dev nD → S4096x128.Idx → Elt Ideal .f32) (x : FVec Ideal ⟨2, ![4096, 4096]⟩ .f32) : Prop :=
  ∀ (d : Dev nD) (i : Fin 4096) (j : Fin 128), X d (ix2 i j) = x (ix2 i ⟨128 * d.val + j.val, by have := dev_lt d; have := j.isLt; omega⟩)

theorem gV_apply (hX : Holds X x) (c : Dev nD) (p : Fin 8) (a : Fin 128) (k : Fin 512) :
    gV X c p (ix2 a k) = x (ix2 (rowOf c a) (posOf c (512 * p.val + k.val))) := by
  have hp := p.isLt
  have hk := k.isLt
  have hc := dev_lt c
  have e : gV X c p (ix2 a k) = XG X c (ix2 a ⟨512 * p.val + k.val, by omega⟩) := by
    show XG X c ((gRect p).emb (ix2 a k)) = _
    refine congrArg (XG X c) (funext fun ax => Fin.ext ?_)
    rw [ValueKit.rect_emb_unit_val]
    match ax with
    | ⟨0, _⟩ => exact Nat.zero_add _
    | ⟨1, _⟩ => rfl
  rw [e]
  unfold XG
  rw [hX]
  refine congrArg x (congrArg₂ ix2 (Fin.ext rfl) (Fin.ext ?_))
  show 128 * ((c.val + (512 * p.val + k.val) / 128) % 32) + (512 * p.val + k.val) % 128 = (128 * c.val + (512 * p.val + k.val)) % 4096
  omega

theorem bV_apply (hW : ∀ d, W d = w) (c : Dev nD) (p : Fin 8) (g : Fin 4) (k : Fin 512) (n : Fin 2048) :
    bV W c (stepOf p g) (ix3 0 k n) = w (ix2 (posOf c (512 * p.val + k.val)) (colOf g n)) := by
  have hp := p.isLt
  have hg := g.isLt
  have hk := k.isLt
  have hc := dev_lt c
  have e : bV W c (stepOf p g) (ix3 0 k n) = WB W c (stepOf p g) (ix3 (sOf (stepOf p g)) k n) := by
    show WB W c (stepOf p g) ((bRect (sOf (stepOf p g))).emb (ix3 0 k n)) = _
    refine congrArg (WB W c (stepOf p g)) (funext fun ax => Fin.ext ?_)
    rw [ValueKit.rect_emb_unit_val]
    match ax with
    | ⟨0, _⟩ => exact Nat.add_zero _
    | ⟨1, _⟩ => exact Nat.zero_add _
    | ⟨2, _⟩ => exact Nat.zero_add _
  rw [e]
  unfold WB
  rw [hW]
  refine congrArg w (congrArg₂ ix2 (Fin.ext ?_) (Fin.ext ?_))
  · show 128 * ((c.val + 4 * ((4 * p.val + g.val) / 4) + k.val / 128) % 32) + k.val % 128 = (128 * c.val + (512 * p.val + k.val)) % 4096
    omega
  · show 2048 * ((4 * p.val + g.val) % 4) + n.val = 2048 * g.val + n.val
    omega

theorem dims_eq : dot_S128x512_S512x2048_S128x2048_1_0_0_1_n_n = DotDims.plain 128 512 2048 := rfl

theorem pay3_apply (G : Vec Ideal S128x512 .f32) (B : Vec Ideal S1x512x2048 .f32) (a : Fin 128) (n : Fin 2048) :
    k0_pay3 G B (ix2 a n) = ∑ k : Fin 512, G (ix2 a k) * B (ix3 0 k n) := by
  unfold k0_pay3
  simp only [matmul]
  rw [dims_eq]
  refine (Ideal.matmul_plain_apply none G _ _ a n).trans ?_
  rw [show constant (F := Ideal) S128x2048 .f32 0x00000000#32 (ix2 a n) = 0 from Ideal.ofBits_zero_f32, zero_add]
  exact Finset.sum_congr rfl fun k _ => congrArg (G (ix2 a k) * ·) (shapeCast_1ab_ab_apply B _ k n)

theorem pay7_apply (G : Vec Ideal S128x512 .f32) (B : Vec Ideal S1x512x2048 .f32) (o : Vec Ideal S128x2048 .f32) (a : Fin 128) (n : Fin 2048) :
    k0_pay7 G B o (ix2 a n) = o (ix2 a n) + ∑ k : Fin 512, G (ix2 a k) * B (ix3 0 k n) := by
  rw [← pay3_apply]
  show shapeCast S128x2048 o shapeCasts_S128x2048_S128x2048 (ix2 a n) + k0_pay3 G B (ix2 a n) = _
  rw [shapeCast_apply o _ (ix2 a n) (ix2 a n) rfl]

/-- The term of the sum that gathered column `j` of device `c` gives. -/
def term (x : FVec Ideal ⟨2, ![4096, 4096]⟩ .f32) (w : FVec Ideal ⟨2, ![4096, 8192]⟩ .f32) (c : Dev nD) (a : Fin 128) (b : Fin 8192) (j : ℕ) : EReal :=
  x (ix2 (rowOf c a) (posOf c j)) * w (ix2 (posOf c j) b)

/-- The product of one row group: 512 terms. -/
theorem group_sum (hX : Holds X x) (hW : ∀ d, W d = w) (c : Dev nD) (p : Fin 8) (g : Fin 4) (a : Fin 128) (n : Fin 2048) :
    ∑ k : Fin 512, gV X c p (ix2 a k) * bV W c (stepOf p g) (ix3 0 k n)
      = ∑ j ∈ Finset.range 512, term x w c a (colOf g n) (512 * p.val + j) := by
  rw [← Fin.sum_univ_eq_sum_range (fun j => term x w c a (colOf g n) (512 * p.val + j)) 512]
  exact Finset.sum_congr rfl fun k _ => by rw [gV_apply hX, bV_apply hW]; rfl

theorem accN_apply (hX : Holds X x) (hW : ∀ d, W d = w) (c : Dev nD) (g : Fin 4) (a : Fin 128) (n : Fin 2048) (p : ℕ) (hp : p < 8) :
    accN X W c g p (ix2 a n) = ∑ j ∈ Finset.range (512 * p + 512), term x w c a (colOf g n) j := by
  induction p with
  | zero =>
    show k0_pay3 (gV X c 0) (bV W c (stepOf 0 g)) (ix2 a n) = _
    rw [pay3_apply, group_sum hX hW]
    exact Finset.sum_congr rfl fun j _ => congrArg _ (Nat.zero_add j)
  | succ p ih =>
    have e : accN X W c g (p + 1) = k0_pay7 (gV X c ⟨p + 1, hp⟩) (bV W c (stepOf ⟨p + 1, hp⟩ g)) (accN X W c g p) := dif_pos hp
    rw [e, pay7_apply, group_sum hX hW, ih (by omega), Finset.sum_range_add _ (512 * (p + 1)) 512]
    rfl

/-- Around the mesh from device `c`, the terms are all the product's terms. -/
theorem sum_terms (c : Dev nD) (a : Fin 128) (b : Fin 8192) :
    ∑ j ∈ Finset.range 4096, term x w c a b j = prodAt x w (rowOf c a) b := by
  rw [← Fin.sum_univ_eq_sum_range (fun j => term x w c a b j) 4096]
  unfold prodAt
  refine Eq.trans ?_ (Equiv.sum_comp (Equiv.addLeft (⟨128 * c.val, by have := dev_lt c; omega⟩ : Fin 4096)) fun k => x (ix2 (rowOf c a) k) * w (ix2 k b))
  refine Finset.sum_congr rfl fun k _ => ?_
  rw [show (Equiv.addLeft (⟨128 * c.val, by have := dev_lt c; omega⟩ : Fin 4096)) k = posOf c k.val from Fin.ext (Fin.val_add _ _)]
  rfl

/-- The block of the product that the last step on column block `g` stores. -/
theorem blk_last (hX : Holds X x) (hW : ∀ d, W d = w) (c : Dev nD) (g : Fin 4) (a : Fin 128) (n : Fin 2048) :
    blk X W c (lastOf g) (ix2 a n) = prodAt x w (rowOf c a) (colOf g n) := by
  have hg := g.isLt
  have hc : cOf (lastOf g) = g := Fin.ext (by show (28 + g.val) % 4 = g.val; omega)
  have hp : (pOf (lastOf g)).val = 7 := by show (28 + g.val) / 4 = 7; omega
  unfold blk
  rw [hc, hp, accN_apply hX hW c g a n 7 (by decide)]
  exact sum_terms c a (colOf g n)

theorem yV_apply (hX : Holds X x) (hW : ∀ d, W d = w) (c : Dev nD) (a : Fin 128) (b : Fin 8192) :
    yV X W c (ix2 a b) = prodAt x w (rowOf c a) b := by
  have hb := b.isLt
  have e : yV X W c (ix2 a b) = blk X W c (lastOf ⟨b.val / 2048, by omega⟩) (ix2 a ⟨b.val % 2048, Nat.mod_lt _ (by decide)⟩) := rfl
  rw [e, blk_last hX hW]
  exact congrArg (prodAt x w (rowOf c a)) (Fin.ext (by show 2048 * (b.val / 2048) + b.val % 2048 = b.val; omega))

end Cert.KernelIdeal.Own

end
-- ==== Proof.Quant.lean ====
/-
  The quantiser over the extended reals: scaling by 448 over the maximum and back is the same as dividing by the
  scale, clipping and multiplying by it, and the clip never acts.
-/
module

public import Idealize.ShloMosaic.PureOps.Ideal
public import Idealize.ShloMosaic.PureOps.Ideal.Laws
public import Mathlib.Tactic.NormNum
public import Mathlib.Tactic.Linarith
public import Mathlib.Tactic.FieldSimp
public import Mathlib.Tactic.Ring

@[expose] public section

noncomputable section

namespace Cert.Proof

open Idealize.ShloMosaic

/-- The words of the two programs' constants. -/
theorem word_448 : Ideal.ofBits .f32 0x43E00000#32 = ((448 : ℝ) : EReal) := by
  simp [Ideal.ofBits, Ideal.ieee]
  norm_num
  rw [← EReal.coe_mul]
  norm_num
theorem word_neg_448 : Ideal.ofBits .f32 0xC3E00000#32 = ((-448 : ℝ) : EReal) := by
  simp [Ideal.ofBits, Ideal.ieee]
  norm_num
  rw [← EReal.coe_mul]
  norm_num
theorem word_neg_inf : Ideal.ofBits .f32 0xFF800000#32 = (⊥ : EReal) := by
  simp [Ideal.ofBits, Ideal.ieee]

theorem div_real {x y : ℝ} (h : y ≠ 0) : Ideal.div (x : EReal) (y : EReal) = ((x / y : ℝ) : EReal) := by
  rw [Ideal.div_coe h, ← EReal.coe_mul]
  exact congrArg _ (by ring)

theorem quant (y g : EReal) (h : max y (-y) ≤ g) :
    y * Ideal.div ((448 : ℝ) : EReal) g * Ideal.div g ((448 : ℝ) : EReal)
      = min ((448 : ℝ) : EReal) (max ((-448 : ℝ) : EReal) (Ideal.div y (Ideal.div g ((448 : ℝ) : EReal))))
        * Ideal.div g ((448 : ℝ) : EReal) := by
  have h448 : (448 : ℝ) ≠ 0 := by norm_num
  have hy : y ≤ g := (le_max_left _ _).trans h
  have hy' : -y ≤ g := (le_max_right _ _).trans h
  induction g with
  | bot =>
    rw [le_bot_iff] at hy hy'
    rw [hy] at hy'
    simp at hy'
  | top =>
    have e1 : Ideal.div ((448 : ℝ) : EReal) ⊤ = 0 := by
      unfold Ideal.div
      rw [if_neg (by simp), EReal.inv_top, mul_zero]
    have e2 : Ideal.div ⊤ ((448 : ℝ) : EReal) = ⊤ := by
      rw [Ideal.div_coe h448]
      exact EReal.top_mul_coe_of_pos (by norm_num)
    have e3 : Ideal.div y ⊤ = 0 := by
      unfold Ideal.div
      rw [if_neg (by simp), EReal.inv_top, mul_zero]
    rw [e1, e2, e3, mul_zero, zero_mul, max_eq_right (by exact_mod_cast (by norm_num : (-448 : ℝ) ≤ 0)),
      min_eq_right (by exact_mod_cast (by norm_num : (0 : ℝ) ≤ 448)), zero_mul]
  | coe r =>
    induction y with
    | bot => simp at hy'
    | top => simp at hy
    | coe s =>
      have hs : s ≤ r := by exact_mod_cast hy
      have hs' : -s ≤ r := by exact_mod_cast hy'
      rw [div_real h448]
      by_cases hr : r = 0
      · have h0 : s = 0 := by linarith
        subst hr
        simp [h0]
      · have hp : 0 < r := lt_of_le_of_ne (by linarith) (Ne.symm hr)
        have hq : r / 448 ≠ 0 := by positivity
        have hle : s / (r / 448) ≤ 448 := by
          rw [div_le_iff₀ (by positivity)]; linarith
        have hge : -448 ≤ s / (r / 448) := by
          rw [le_div_iff₀ (by positivity)]; linarith
        rw [div_real hr, div_real hq, max_eq_right (by exact_mod_cast hge), min_eq_right (by exact_mod_cast hle),
          ← EReal.coe_mul, ← EReal.coe_mul, ← EReal.coe_mul]
        exact congrArg _ (by field_simp)

end Cert.Proof

end
-- ==== Proof.Maxima.lean ====
/-
  A largest absolute value, read through the bounds it has: a reduction to one element from minus infinity is below
  `z` when every element is.
-/
module

public import proofs.«01_k».proof.Proof.Quant
public import Idealize.ShloMosaic.PureOps.Reduce
public import Idealize.ShloMosaic.PureOps.ShapeOps

@[expose] public section

noncomputable section

namespace Cert.Proof

open Idealize.ShloMosaic

/-- Every element of a reshaped vector is below `z` when every element of the vector is. -/
theorem shapeCast_le {s t : Shape} (x : s.Idx → EReal) (h : s.ShapeCasts t) (z : EReal) :
    (∀ i, shapeCast t x h i ≤ z) ↔ ∀ i, x i ≤ z :=
  ⟨fun hz i => by
    have := hz ((Shape.reshapeEquiv h).symm i)
    unfold shapeCast at this
    rwa [Equiv.apply_symm_apply] at this, fun hz i => hz _⟩

/-- A maximum over all the axes but a unit one, read at its one element. -/
theorem max_le {s t u : Shape} {axes : List (Fin s.rank)} (src : FVec Ideal s .f32) (h : s.Reduces axes t)
    (hφ : FKind.Formats .f32) (hacc : (0xFF800000#32 : BitVec 32) = FKind.maximumf.neutral .f32 hφ)
    (ht : ∀ j j' : t.Idx, j = j') (hc : t.ShapeCasts u) (pos : Fin u.rank → ℕ) (hp : ∀ a, pos a < u.size a) (z : EReal) :
    extractAt pos (shapeCast u (multiReduction .maximumf axes t src 0xFF800000#32 h hφ hacc) hc) hp ≤ z ↔ ∀ i, src i ≤ z := by
  unfold extractAt shapeCast
  rw [multiReduction_maximumf_eq_fold]
  refine (Finset.fold_max_le _).trans ⟨fun hz i => hz.2 i (Finset.mem_filter.mpr ⟨Finset.mem_univ _, ht _ _⟩), fun hz => ⟨?_, fun i _ => hz i⟩⟩
  exact le_of_eq_of_le word_neg_inf bot_le

end Cert.Proof

end
-- ==== Proof.Value.lean ====
/-
  The kernel's result against the reference's over the extended reals: the same product, the same largest absolute
  value, and the same quantised element.
-/
module

public import proofs.«01_k».proof.Proof.Product
public import proofs.«01_k».proof.Proof.Maxima
public import proofs.«01_k».proof.Proof.Frames
public import proofs.«01_k».proof.Proof.Gen.ReferenceIdeal.Value

@[expose] public section

noncomputable section

namespace Cert.Proof

open Idealize.ShloMosaic hiding ix2 ix3 eq_ix2
open Idealize.ShloMosaic.ValueIdx Idealize.ShloMosaic.TcCoe Idealize.SL.Sem
open Cert.KernelIdeal.Own (Holds prodAt rowOf colOf rowMax bmax blk lastOf yV outV AT blk_last yV_apply)

variable {x : FVec Ideal ⟨2, ![4096, 4096]⟩ .f32} {w : FVec Ideal ⟨2, ![4096, 8192]⟩ .f32}

/-- `g` is the largest absolute value of the product. -/
def AbsMax (x : FVec Ideal ⟨2, ![4096, 4096]⟩ .f32) (w : FVec Ideal ⟨2, ![4096, 8192]⟩ .f32) (g : EReal) : Prop :=
  ∀ z, g ≤ z ↔ ∀ r b, max (prodAt x w r b) (-prodAt x w r b) ≤ z

theorem AbsMax.eq {g g' : EReal} (h : AbsMax x w g) (h' : AbsMax x w g') : g = g' :=
  eq_of_forall_ge_iff fun z => (h z).trans (h' z).symm

/-- The quantised element, as the reference writes it. -/
def quantAt (g y : EReal) : EReal :=
  min ((448 : ℝ) : EReal) (max ((-448 : ℝ) : EReal) (Ideal.div y (Ideal.div g ((448 : ℝ) : EReal)))) * Ideal.div g ((448 : ℝ) : EReal)

/-- All the indices of a shape of one element are one. -/
theorem one_idx (j j' : (⟨1, ![1]⟩ : Shape).Idx) : j = j' := by
  funext a
  match a with
  | ⟨0, _⟩ => exact Subsingleton.elim (α := Fin 1) _ _

/-! ## The reference -/

section
open Cert.ReferenceIdeal Cert.ReferenceIdeal.Gen

theorem ref_dims : dot_S4096x4096_S4096x8192_S4096x8192_1_0_0_1_n_n = DotDims.plain 4096 4096 8192 := rfl

/-- The reference's product, and the maximum it takes. -/
def refY (x : FVec Ideal ⟨2, ![4096, 4096]⟩ .f32) (w : FVec Ideal ⟨2, ![4096, 8192]⟩ .f32) : FVec Ideal S4096x8192 .f32 :=
  matmul (F := Ideal) (φ₁ := .f32) (φ₂ := .f32) dot_S4096x4096_S4096x8192_S4096x8192_1_0_0_1_n_n none x w (constant S4096x8192 .f32 0x00000000#32)
def refMax (x : FVec Ideal ⟨2, ![4096, 4096]⟩ .f32) (w : FVec Ideal ⟨2, ![4096, 8192]⟩ .f32) : EReal :=
  extractAt ![0, 0, 0] (shapeCast S1x1x1 (multiReduction (F := Ideal) .maximumf [1, 2] S1
    (shapeCast S1x4096x8192 (absf (refY x w)) shapeCasts_S4096x8192_S1x4096x8192) 0xFF800000#32 reduces_S1x4096x8192_S1 (.inl rfl) rfl)
    shapeCasts_S1_S1x1x1) inpos_S1x1x1_p0_0_0

theorem refY_apply (r : Fin 4096) (b : Fin 8192) : refY x w (ix2 r b) = prodAt x w r b := by
  unfold refY
  simp only [matmul]
  rw [ref_dims]
  refine (Ideal.matmul_plain_apply none x w _ r b).trans ?_
  rw [show constant (F := Ideal) S4096x8192 .f32 0x00000000#32 (ix2 r b) = 0 from Ideal.ofBits_zero_f32, zero_add]
  rfl

theorem refMax_abs : AbsMax x w (refMax x w) := fun z => by
  refine ((max_le (shapeCast S1x4096x8192 (absf (refY x w)) shapeCasts_S4096x8192_S1x4096x8192) reduces_S1x4096x8192_S1 (.inl rfl) rfl one_idx
    shapeCasts_S1_S1x1x1 ![0, 0, 0] inpos_S1x1x1_p0_0_0 z).trans (shapeCast_le (absf (refY x w)) _ z)).trans ⟨fun h r b => ?_, fun h i => ?_⟩
  · have := h (ix2 r b)
    rw [← refY_apply]
    exact this
  · obtain ⟨r, b, rfl⟩ : ∃ (r : Fin 4096) (b : Fin 8192), i = ix2 r b := ⟨_, _, eq_ix2 i⟩
    show max (refY x w (ix2 r b)) (-refY x w (ix2 r b)) ≤ z
    rw [refY_apply]
    exact h r b

theorem ref_apply (r : Fin 4096) (b : Fin 8192) : k0_pay1 (F := Ideal) x w (ix2 r b) = quantAt (refMax x w) (prodAt x w r b) := by
  have e : k0_pay1 (F := Ideal) x w (ix2 r b)
      = min (Ideal.ofBits .f32 0x43E00000#32) (max (Ideal.ofBits .f32 0xC3E00000#32)
          (Ideal.div (refY x w (ix2 r b)) (Ideal.div (refMax x w) (Ideal.ofBits .f32 0x43E00000#32))))
        * Ideal.div (refMax x w) (Ideal.ofBits .f32 0x43E00000#32) := rfl
  rw [e, refY_apply, word_448, word_neg_448]
  rfl

end

/-! ## The kernel -/

section
open Cert.KernelIdeal Cert.KernelIdeal.Gen

variable {X : Dev nD → S4096x128.Idx → Elt Ideal .f32} {W : Dev nD → S4096x8192.Idx → Elt Ideal .f32}

theorem bmax_le (v : FVec Ideal S128x2048 .f32) (z : EReal) : bmax v ≤ z ↔ ∀ a n, max (v (ix2 a n)) (-v (ix2 a n)) ≤ z := by
  exact ((max_le (shapeCast S1x128x2048 (absf v) shapeCasts_S128x2048_S1x128x2048) reduces_S1x128x2048_S1 (.inl rfl) rfl one_idx
    shapeCasts_S1_S1x1x1 ![0, 0, 0] inpos_S1x1x1_p0_0_0 z).trans (shapeCast_le (absf v) _ z)).trans ⟨fun h a n => h (ix2 a n), fun h i => by rw [eq_ix2 i]; exact h _ _⟩

theorem scalar_max (u v : Ideal .f32) : Scalar.maximumf u v = max u v := rfl

theorem last_zero : lastOf 0 = 28 := by decide
theorem last_one : lastOf 1 = 29 := by decide
theorem last_two : lastOf 2 = 30 := by decide
theorem last_three : lastOf 3 = 31 := by decide

theorem rowMax_le (hX : Holds X x) (hW : ∀ d, W d = w) (c : Dev nD) (z : EReal) :
    rowMax X W c ≤ z ↔ ∀ g a n, max (prodAt x w (rowOf c a) (colOf g n)) (-prodAt x w (rowOf c a) (colOf g n)) ≤ z := by
  have hb : ∀ g : Fin 4, bmax (blk X W c (lastOf g)) ≤ z
      ↔ ∀ a n, max (prodAt x w (rowOf c a) (colOf g n)) (-prodAt x w (rowOf c a) (colOf g n)) ≤ z := fun g => by
    rw [bmax_le]
    exact forall_congr' fun a => forall_congr' fun n => by rw [blk_last hX hW]
  unfold rowMax
  rw [scalar_max, scalar_max, scalar_max, ← last_zero, ← last_one, ← last_two, ← last_three, _root_.max_le_iff, _root_.max_le_iff, _root_.max_le_iff,
    hb, hb, hb, hb]
  refine ⟨fun h g => ?_, fun h => ⟨⟨h 0, h 1⟩, h 2, h 3⟩⟩
  match g with
  | 0 => exact h.1.1
  | 1 => exact h.1.2
  | 2 => exact h.2.1
  | 3 => exact h.2.2

/-- The largest of the devices' maxima is the whole product's. -/
theorem table_abs (hX : Holds X x) (hW : ∀ d, W d = w) : AbsMax x w (k0_pay49 (F := Ideal) (AT (rowMax X W))) := fun z => by
  have e : k0_pay49 (F := Ideal) (AT (rowMax X W)) ≤ z ↔ ∀ i, AT (rowMax X W) i ≤ z :=
    (max_le (shapeCast S1x32x8x128 (AT (rowMax X W)) shapeCasts_S32x8x128_S1x32x8x128) reduces_S1x32x8x128_S1 (.inl rfl) rfl one_idx
      shapeCasts_S1_S1x1x1x1 ![0, 0, 0, 0] inpos_S1x1x1x1_p0_0_0_0 z).trans (shapeCast_le (AT (rowMax X W)) _ z)
  rw [e]
  refine ⟨fun h r b => ?_, fun h i => (rowMax_le hX hW _ z).mpr fun g a n => h _ _⟩
  have hr := r.isLt
  have hb := b.isLt
  have hd : r.val / 128 < 32 := by omega
  have hg : b.val / 2048 < 4 := by omega
  have h' := (rowMax_le hX hW (⟨r.val / 128, hd⟩ : Fin 32) z).mp (h (ix3 (⟨r.val / 128, hd⟩ : Fin 32) (0 : Fin 8) (0 : Fin 128)))
    ⟨b.val / 2048, hg⟩ ⟨r.val % 128, Nat.mod_lt _ (by decide)⟩ ⟨b.val % 2048, Nat.mod_lt _ (by decide)⟩
  have er : rowOf (⟨r.val / 128, hd⟩ : Fin 32) ⟨r.val % 128, Nat.mod_lt _ (by decide)⟩ = r := Fin.ext (Nat.div_add_mod r.val 128)
  have eb : colOf ⟨b.val / 2048, hg⟩ ⟨b.val % 2048, Nat.mod_lt _ (by decide)⟩ = b := Fin.ext (Nat.div_add_mod b.val 2048)
  rwa [er, eb] at h'

/-- The last payload at an element: two products, a cast forth and back between them. -/
theorem pay1_apply (g s : Ideal .f32) (y : FVec Ideal S128x8192 .f32) (a : Fin 128) (b : Fin 8192) :
    k0_pay1 (F := Ideal) g s y (ix2 a b) = y (ix2 a b) * Ideal.div (Ideal.ofBits .f32 0x43E00000#32) g * s := by
  rw [← shapeCast_apply y shapeCasts_S128x8192_S128x8192 (ix2 a b) (ix2 a b) rfl]
  rfl

theorem out_apply (hX : Holds X x) (hW : ∀ d, W d = w) (c : Dev nD) (a : Fin 128) (b : Fin 8192) :
    outV X W (rowMax X W) c (ix2 a b) = quantAt (refMax x w) (prodAt x w (rowOf c a) b) := by
  have hg := table_abs hX hW
  unfold outV
  rw [pay1_apply, yV_apply hX hW, show k0_pay50 (F := Ideal) (AT (rowMax X W))
    = Ideal.div (k0_pay49 (F := Ideal) (AT (rowMax X W))) (Ideal.ofBits .f32 0x43E00000#32) from rfl, word_448, hg.eq refMax_abs]
  exact quant _ _ ((refMax_abs _).mp le_rfl _ _)

end

/-! ## The claim -/

open Cert.KernelIdeal.Own in
theorem algebraic : Cert.algebraic_KernelIdeal_ReferenceIdeal (hKernelIdeal := Cert.KernelIdeal.Gen.facts)
    (hReferenceIdeal := Cert.ReferenceIdeal.Gen.facts) := by
  intro m g m' g' _ hin
  have hX : Holds (xIn m) (m' (((0 : Dev Cert.ReferenceIdeal.nD).tc : Thread Cert.ReferenceIdeal.nD Cert.ReferenceIdeal.τ).loc Cert.ReferenceIdeal.main_arg0)) := fun d i j => by
    rw [xIn_eq, (hin d).1, Layout.block_apply]
    refine congrArg _ (funext fun ax => Fin.ext ?_)
    match ax with
    | ⟨0, _⟩ => rfl
    | ⟨1, _⟩ => exact congrArg (· + j.val) (Nat.mul_comm d.val 128)
  have hW : ∀ d, wIn m d = m' (((0 : Dev Cert.ReferenceIdeal.nD).tc : Thread Cert.ReferenceIdeal.nD Cert.ReferenceIdeal.τ).loc Cert.ReferenceIdeal.main_arg1) := fun d => (hin d).2
  refine ⟨_, (θ_run Cert.KernelIdeal.defs _ _).mono (fun r h c => ⟨(h.1 c).1.trans ?_, (h.1 c).2⟩) (run_main (F := Ideal) m g),
    (θ_run Cert.ReferenceIdeal.defs _ _).mono (fun r h => h 0) (Cert.ReferenceIdeal.Value.run (F := Ideal) m' g')⟩
  funext i
  obtain ⟨a, b, rfl⟩ : ∃ (a : Fin 128) (b : Fin 8192), i = ix2 a b := ⟨_, _, eq_ix2 i⟩
  refine (out_apply hX hW c a b).trans ?_
  rw [Layout.block_apply]
  refine (ref_apply (rowOf c a) b).symm.trans (congrArg _ (funext fun ax => Fin.ext ?_))
  match ax with
  | ⟨0, _⟩ => exact congrArg (· + a.val) (Nat.mul_comm 128 c.val)
  | ⟨1, _⟩ => rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
